-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10x15360x2048 : Shape := ⟨3, ![10, 15360, 2048]⟩
abbrev S10x15360x16 : Shape := ⟨3, ![10, 15360, 16]⟩
abbrev S10x15360x2304 : Shape := ⟨3, ![10, 15360, 2304]⟩
abbrev S10x120x2304 : Shape := ⟨3, ![10, 120, 2304]⟩
abbrev S2048x2304 : Shape := ⟨2, ![2048, 2304]⟩
abbrev S153600x2048 : Shape := ⟨2, ![153600, 2048]⟩
abbrev S153600x16 : Shape := ⟨2, ![153600, 16]⟩
abbrev S153600x2304 : Shape := ⟨2, ![153600, 2304]⟩
abbrev S300x4x2304 : Shape := ⟨3, ![300, 4, 2304]⟩
abbrev S300x4x2048 : Shape := ⟨3, ![300, 4, 2048]⟩
abbrev S512x2048 : Shape := ⟨2, ![512, 2048]⟩
abbrev S512x16 : Shape := ⟨2, ![512, 16]⟩
abbrev S512x2304 : Shape := ⟨2, ![512, 2304]⟩
abbrev S1x4x2304 : Shape := ⟨3, ![1, 4, 2304]⟩
abbrev S1x4x2048 : Shape := ⟨3, ![1, 4, 2048]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x1x128 : Shape := ⟨3, ![1, 1, 128]⟩
abbrev S128x2304 : Shape := ⟨2, ![128, 2304]⟩
abbrev S1x1x2304 : Shape := ⟨3, ![1, 1, 2304]⟩
abbrev S1x2304 : Shape := ⟨2, ![1, 2304]⟩

abbrev nBuf : Space → Nat
  | .hbm => 12
  | .vmem => 16
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x15360x16, .f32⟩
  | .hbm, ⟨2, _⟩ => ⟨S10x15360x2304, .fp8e5m2⟩
  | .hbm, ⟨3, _⟩ => ⟨S10x120x2304, .f32⟩
  | .hbm, ⟨4, _⟩ => ⟨S2048x2304, .f32⟩
  | .hbm, ⟨5, _⟩ => ⟨S153600x2048, .fp8e4m3⟩
  | .hbm, ⟨6, _⟩ => ⟨S153600x16, .f32⟩
  | .hbm, ⟨7, _⟩ => ⟨S153600x2304, .fp8e5m2⟩
  | .hbm, ⟨8, _⟩ => ⟨S300x4x2304, .f32⟩
  | .hbm, ⟨9, _⟩ => ⟨S2048x2304, .f32⟩
  | .hbm, ⟨10, _⟩ => ⟨S153600x2048, .fp8e4m3⟩
  | .hbm, ⟨11, _⟩ => ⟨S300x4x2048, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S512x16, .f32⟩
  | .local _ .vmem, ⟨3, _⟩ => ⟨S512x16, .f32⟩
  | .local _ .vmem, ⟨4, _⟩ => ⟨S512x2304, .fp8e5m2⟩
  | .local _ .vmem, ⟨5, _⟩ => ⟨S512x2304, .fp8e5m2⟩
  | .local _ .vmem, ⟨6, _⟩ => ⟨S1x4x2304, .f32⟩
  | .local _ .vmem, ⟨7, _⟩ => ⟨S1x4x2304, .f32⟩
  | .local _ .vmem, ⟨8, _⟩ => ⟨S2048x2304, .f32⟩
  | .local _ .vmem, ⟨9, _⟩ => ⟨S2048x2304, .f32⟩
  | .local _ .vmem, ⟨10, _⟩ => ⟨S512x2048, .fp8e4m3⟩
  | .local _ .vmem, ⟨11, _⟩ => ⟨S512x2048, .fp8e4m3⟩
  | .local _ .vmem, ⟨12, _⟩ => ⟨S1x4x2048, .f32⟩
  | .local _ .vmem, ⟨13, _⟩ => ⟨S1x4x2048, .f32⟩
  | .local _ .vmem, ⟨14, _⟩ => ⟨S512x2048, .bf16⟩
  | .local _ .vmem, ⟨15, _⟩ => ⟨S512x2304, .bf16⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2304 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10x15360x2048 : Shape := ⟨3, ![10, 15360, 2048]⟩
abbrev S10x15360x16 : Shape := ⟨3, ![10, 15360, 16]⟩
abbrev S10x15360x2304 : Shape := ⟨3, ![10, 15360, 2304]⟩
abbrev S10x120x2304 : Shape := ⟨3, ![10, 120, 2304]⟩
abbrev S2048x2304 : Shape := ⟨2, ![2048, 2304]⟩
abbrev S1200x128x2048 : Shape := ⟨3, ![1200, 128, 2048]⟩
abbrev S10x15360x16x128 : Shape := ⟨4, ![10, 15360, 16, 128]⟩
abbrev S1200x128x2304 : Shape := ⟨3, ![1200, 128, 2304]⟩
abbrev S1200x2304 : Shape := ⟨2, ![1200, 2304]⟩
abbrev S153600x2048 : Shape := ⟨2, ![153600, 2048]⟩
abbrev S300x4x2048 : Shape := ⟨3, ![300, 4, 2048]⟩
abbrev S1200x2048 : Shape := ⟨2, ![1200, 2048]⟩
abbrev S1200x1x2048 : Shape := ⟨3, ![1200, 1, 2048]⟩
abbrev S1200x1x2304 : Shape := ⟨3, ![1200, 1, 2304]⟩
abbrev S153600x2304 : Shape := ⟨2, ![153600, 2304]⟩

abbrev nBuf : Space → Nat
  | .hbm => 14
  | .vmem => 8
  | .smem => 0
  | _ => 0

abbrev bufTy : (tb : Table) → Fin (tcTables nBuf tb) → BufTy
  | .hbm, ⟨0, _⟩ => ⟨S10x15360x2048, .fp8e4m3⟩
  | .hbm, ⟨1, _⟩ => ⟨S10x15360x16, .f32⟩
  | .hbm, ⟨2, _⟩ => ⟨S10x15360x2304, .fp8e5m2⟩
  | .hbm, ⟨3, _⟩ => ⟨S10x120x2304, .f32⟩
  | .hbm, ⟨4, _⟩ => ⟨S2048x2304, .f32⟩
  | .hbm, ⟨5, _⟩ => ⟨S1200x128x2048, .fp8e4m3⟩
  | .hbm, ⟨6, _⟩ => ⟨S10x15360x16x128, .f32⟩
  | .hbm, ⟨7, _⟩ => ⟨S10x15360x2048, .f32⟩
  | .hbm, ⟨8, _⟩ => ⟨S1200x128x2048, .f32⟩
  | .hbm, ⟨9, _⟩ => ⟨S1200x128x2304, .fp8e5m2⟩
  | .hbm, ⟨10, _⟩ => ⟨S1200x2304, .f32⟩
  | .hbm, ⟨11, _⟩ => ⟨S2048x2304, .f32⟩
  | .hbm, ⟨12, _⟩ => ⟨S153600x2048, .fp8e4m3⟩
  | .hbm, ⟨13, _⟩ => ⟨S300x4x2048, .f32⟩
  | .local _ .vmem, ⟨0, _⟩ => ⟨S1200x128x2048, .fp8e4m3⟩
  | .local _ .vmem, ⟨1, _⟩ => ⟨S1200x128x2048, .f32⟩
  | .local _ .vmem, ⟨2, _⟩ => ⟨S1200x128x2304, .fp8e5m2⟩
  | .local _ .vmem, ⟨3, _⟩ => ⟨S1200x2304, .f32⟩
  | .local _ .vmem, ⟨4, _⟩ => ⟨S2048x2304, .f32⟩
  | .local _ .vmem, ⟨5, _⟩ => ⟨S2048x2304, .f32⟩
  | .local _ .vmem, ⟨6, _⟩ => ⟨S153600x2048, .fp8e4m3⟩
  | .local _ .vmem, ⟨7, _⟩ => ⟨S300x4x2048, .f32⟩
  | _, _ => ⟨S10x15360x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1200x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1200x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1200x128x2304 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1200x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S153600x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S300x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/- The power-of-two scale of one column of a block, as the kernel finds it (bisection of the exponent field, then
   a bit pattern read back as a float) and as the mathematics states it (the logarithm's floor, then `2^e`).
   `scale_eq` and `inverse_eq`: the two agree at every extended real. -/
module
public import Idealize.ShloMosaic.PureOps.Ideal
public import Idealize.ShloMosaic.PureOps.Ideal.Laws

@[expose] public section
noncomputable section
namespace Cert.Work
open Idealize.ShloMosaic

/-! ## Floats with a zero significand -/

/-- The float whose exponent field is `f`, all other bits zero: `2^(f-127)`, zero at `f = 0`, `+∞` at `f = 255`. -/
def fieldFloat (f : ℕ) : EReal :=
  if f = 255 then ⊤ else if f = 0 then 0 else (((2 : ℝ) ^ ((f : ℤ) - 127) : ℝ) : EReal)

theorem field_bits : ∀ f : Fin 256, ((BitVec.ofNat 32 f.val <<< 23).extractLsb' (8 + 23) 1 == 1#1) = false
    ∧ ((BitVec.ofNat 32 f.val <<< 23).extractLsb' 23 8).toNat = f.val
    ∧ ((BitVec.ofNat 32 f.val <<< 23).extractLsb' 0 23).toNat = 0 := by decide +kernel

/-- What a binary32 pattern denotes when its sign and significand bits are zero. -/
theorem ieee_field (b : BitVec 32) (f : ℕ) (hs : (b.extractLsb' (8 + 23) 1 == 1#1) = false)
    (he : (b.extractLsb' 23 8).toNat = f) (hf : (b.extractLsb' 0 23).toNat = 0) : Ideal.ieee 8 23 b = fieldFloat f := by
  unfold Ideal.ieee fieldFloat
  simp only [hs, he, hf]
  by_cases h1 : f = 255
  · rw [if_pos (show f = 2 ^ 8 - 1 from h1), if_pos trivial, if_pos h1, if_neg Bool.false_ne_true]
  rw [if_neg (show ¬ f = 2 ^ 8 - 1 from h1), if_neg h1, if_neg Bool.false_ne_true]
  by_cases h0 : f = 0
  · rw [if_pos h0, if_pos h0, Nat.cast_zero, mul_zero, zero_mul, EReal.coe_zero]
  rw [if_neg h0, if_neg h0]
  congr 1
  rw [Nat.add_zero, one_mul, show ((2 ^ 23 : ℕ) : ℝ) = (2 : ℝ) ^ (23 : ℤ) by norm_num, ← zpow_add₀ (by norm_num)]
  congr 1
  push_cast
  ring

/-- The pattern `f <<< 23` denotes `fieldFloat f`. -/
theorem ofBits_field (f : ℕ) (h : f ≤ 255) : Ideal.ofBits .f32 (BitVec.ofNat 32 f <<< 23) = fieldFloat f :=
  have ⟨a, b, c⟩ := field_bits ⟨f, by omega⟩
  ieee_field _ f a b c

theorem fieldFloat_of (f : ℕ) (h0 : f ≠ 0) (h1 : f ≠ 255) : fieldFloat f = (((2 : ℝ) ^ ((f : ℤ) - 127) : ℝ) : EReal) := by
  rw [fieldFloat, if_neg h1, if_neg h0]

/-- A larger field is a larger float. -/
theorem fieldFloat_mono {f g : ℕ} (h : f ≤ g) (hg : g ≤ 255) : fieldFloat f ≤ fieldFloat g := by
  by_cases g1 : g = 255
  · rw [fieldFloat.eq_def g, if_pos g1]; exact le_top
  by_cases f0 : f = 0
  · rw [fieldFloat.eq_def f, if_neg (by omega), if_pos f0]
    by_cases g0 : g = 0
    · rw [fieldFloat, if_neg g1, if_pos g0]
    · rw [fieldFloat_of g g0 g1]; exact_mod_cast (by positivity : (0 : ℝ) ≤ (2 : ℝ) ^ ((g : ℤ) - 127))
  rw [fieldFloat_of f f0 (by omega), fieldFloat_of g (by omega) g1]
  exact_mod_cast zpow_le_zpow_right₀ (by norm_num : (1 : ℝ) ≤ 2) (sub_le_sub_right (Int.ofNat_le.mpr h) 127)

/-! ## The kernel's exponent field by bisection -/

/-- One step: the bit `k` is put in when `y` is at least the float with that field. -/
def kStep (y : Ideal .f32) (f k : BitVec 32) : BitVec 32 :=
  Scalar.select (FloatOps.cmpf .oge y (FloatOps.ofBits .f32 (IntOp.shli .vector (IntOp.addi f k) 23#32))) (IntOp.addi f k) f

/-- The exponent field of `y`, the highest bit first. -/
def kField (y : Ideal .f32) : BitVec 32 :=
  kStep y (kStep y (kStep y (kStep y (kStep y (kStep y (kStep y (kStep y 0#32 128#32) 64#32) 32#32) 16#32) 8#32) 4#32) 2#32) 1#32

/-- The field found is the greatest whose float is at most `y` (zero if there is none). -/
def IsField (y : EReal) (n : ℕ) (f : ℕ) : Prop :=
  n ∣ f ∧ f + n ≤ 256 ∧ (f = 0 ∨ fieldFloat f ≤ y) ∧ (f + n = 256 ∨ y < fieldFloat (f + n))

theorem kStep_spec (y : EReal) (n : ℕ) (hn : 0 < n) (f : ℕ) (h : IsField y (2 * n) f) (h2 : 2 * n ≤ 256) :
    ∃ g, kStep y (BitVec.ofNat 32 f) (BitVec.ofNat 32 n) = BitVec.ofNat 32 g ∧ IsField y n g := by
  obtain ⟨d, l, a, b⟩ := h
  have hs : IntOp.addi (BitVec.ofNat 32 f) (BitVec.ofNat 32 n) = BitVec.ofNat 32 (f + n) := (BitVec.ofNat_add f n).symm
  have hc : kStep y (BitVec.ofNat 32 f) (BitVec.ofNat 32 n)
      = if fieldFloat (f + n) ≤ y then BitVec.ofNat 32 (f + n) else BitVec.ofNat 32 f := by
    unfold kStep
    rw [hs]
    have e : IntOp.shli .vector (BitVec.ofNat 32 (f + n)) 23#32 = BitVec.ofNat 32 (f + n) <<< 23 := rfl
    rw [e]
    show Scalar.select (Ideal.cmp .oge y (Ideal.ofBits .f32 _)) _ _ = _
    rw [ofBits_field (f + n) (by omega)]
    unfold Scalar.select Ideal.cmp
    by_cases hy : fieldFloat (f + n) ≤ y <;> simp [hy]
  have d' : n ∣ f := (Dvd.intro_left 2 rfl).trans d
  by_cases hy : fieldFloat (f + n) ≤ y
  · refine ⟨f + n, by rw [hc, if_pos hy], d'.add dvd_rfl, by omega, .inr hy, ?_⟩
    rw [show f + n + n = f + 2 * n by omega]
    exact b
  · exact ⟨f, by rw [hc, if_neg hy], d', by omega, a, .inr (not_le.mp hy)⟩

theorem kField_spec (y : EReal) : ∃ f, kField y = BitVec.ofNat 32 f ∧ IsField y 1 f := by
  unfold kField
  obtain ⟨f0, e0, h0⟩ := kStep_spec y 128 (by norm_num) 0 ⟨by norm_num, by norm_num, .inl rfl, .inl rfl⟩ (by norm_num)
  rw [e0]
  obtain ⟨f1, e1, h1⟩ := kStep_spec y 64 (by norm_num) f0 h0 (by norm_num)
  rw [e1]
  obtain ⟨f2, e2, h2⟩ := kStep_spec y 32 (by norm_num) f1 h1 (by norm_num)
  rw [e2]
  obtain ⟨f3, e3, h3⟩ := kStep_spec y 16 (by norm_num) f2 h2 (by norm_num)
  rw [e3]
  obtain ⟨f4, e4, h4⟩ := kStep_spec y 8 (by norm_num) f3 h3 (by norm_num)
  rw [e4]
  obtain ⟨f5, e5, h5⟩ := kStep_spec y 4 (by norm_num) f4 h4 (by norm_num)
  rw [e5]
  obtain ⟨f6, e6, h6⟩ := kStep_spec y 2 (by norm_num) f5 h5 (by norm_num)
  rw [e6]
  exact kStep_spec y 1 (by norm_num) f6 h6 (by norm_num)

/-! ## The exponent -/

/-- The kernel's exponent of a column's greatest magnitude `a`, zero where the field is 0 or 255 or `a` is zero. -/
def kExp (a : Ideal .f32) : BitVec 32 :=
  Scalar.select
    (IntOp.ori (IntOp.ori (IntOp.cmpi .eq (kField (FloatOps.mulf a (FloatOps.ofBits .f32 0x3B124925#32))) 0#32)
        (IntOp.cmpi .eq (kField (FloatOps.mulf a (FloatOps.ofBits .f32 0x3B124925#32))) 255#32))
      (FloatOps.cmpf .oeq a (FloatOps.ofBits .f32 0x00000000#32)))
    0#32 (IntOp.subi (kField (FloatOps.mulf a (FloatOps.ofBits .f32 0x3B124925#32))) 126#32)

/-- The mathematics' exponent: `⌊log₂ y⌋ + 1`, at most 128, zero for `y` below `2^-126` or infinite. -/
def rExp (a : Ideal .f32) : Ideal .f32 :=
  Scalar.select
    (IntOp.ori (FloatOps.cmpf .olt (FloatOps.mulf a (FloatOps.ofBits .f32 0x3B124925#32)) (FloatOps.ofBits .f32 0x00800000#32))
      (FloatOps.cmpf .oeq (FloatOps.mulf a (FloatOps.ofBits .f32 0x3B124925#32)) (FloatOps.ofBits .f32 0x7F800000#32)))
    (FloatOps.ofBits .f32 0x00000000#32)
    (FloatOps.minimumf
      (FloatOps.addf (FloatOps.floor (FloatOps.divf (FloatOps.log (FloatOps.mulf a (FloatOps.ofBits .f32 0x3B124925#32)))
        (FloatOps.log (FloatOps.ofBits .f32 0x40000000#32)))) (FloatOps.ofBits .f32 0x3F800000#32))
      (FloatOps.ofBits .f32 0x43000000#32))

/-- `2^e` from the bits, as the kernel has it. -/
def kPow2 (e : BitVec 32) : Ideal .f32 :=
  FloatOps.ofBits .f32 (IntOp.shli .vector
    (Scalar.select (IntOp.cmpi .sle (IntOp.addi e 127#32) 0#32) 0#32
      (Scalar.select (IntOp.cmpi .sge (IntOp.addi e 127#32) 255#32) 255#32 (IntOp.addi e 127#32))) 23#32)

/-- `2^e` flushed to zero below the normal range and to infinity above it. -/
def rPow2 (e : Ideal .f32) : Ideal .f32 :=
  Scalar.select (FloatOps.cmpf .olt e (FloatOps.ofBits .f32 0xC2FC0000#32)) (FloatOps.ofBits .f32 0x00000000#32)
    (Scalar.select (FloatOps.cmpf .ogt e (FloatOps.ofBits .f32 0x42FE0000#32)) (FloatOps.ofBits .f32 0x7F800000#32) (FloatOps.exp2 e))

theorem f32_zero : Ideal.ofBits .f32 0x00000000#32 = 0 := ofBits_field 0 (by norm_num)
theorem f32_one : Ideal.ofBits .f32 0x3F800000#32 = ((1 : ℝ) : EReal) := by
  rw [show (0x3F800000#32 : BitVec 32) = BitVec.ofNat 32 127 <<< 23 from rfl, ofBits_field 127 (by norm_num), fieldFloat_of _ (by norm_num) (by norm_num)]
  norm_num
theorem f32_two : Ideal.ofBits .f32 0x40000000#32 = ((2 : ℝ) : EReal) := by
  rw [show (0x40000000#32 : BitVec 32) = BitVec.ofNat 32 128 <<< 23 from rfl, ofBits_field 128 (by norm_num), fieldFloat_of _ (by norm_num) (by norm_num)]
  norm_num
theorem f32_128 : Ideal.ofBits .f32 0x43000000#32 = ((128 : ℝ) : EReal) := by
  rw [show (0x43000000#32 : BitVec 32) = BitVec.ofNat 32 134 <<< 23 from rfl, ofBits_field 134 (by norm_num), fieldFloat_of _ (by norm_num) (by norm_num)]
  norm_num
theorem f32_min : Ideal.ofBits .f32 0x00800000#32 = fieldFloat 1 := ofBits_field 1 (by norm_num)
theorem f32_top : Ideal.ofBits .f32 0x7F800000#32 = ⊤ := (ofBits_field 255 (by norm_num)).trans (if_pos rfl)

/-- The pattern of 127. -/
theorem f32_127 : Ideal.ofBits .f32 0x42FE0000#32 = ((127 : ℝ) : EReal) := by
  unfold Ideal.ofBits Ideal.ieee
  simp only [show (BitVec.extractLsb' (8 + 23) 1 (0x42FE0000#32) == 1#1) = false from by decide,
    show (BitVec.extractLsb' 23 8 (0x42FE0000#32)).toNat = 133 from by decide,
    show (BitVec.extractLsb' 0 23 (0x42FE0000#32)).toNat = 8257536 from by decide]
  norm_num

/-- The pattern of -126. -/
theorem f32_m126 : Ideal.ofBits .f32 0xC2FC0000#32 = ((-126 : ℝ) : EReal) := by
  unfold Ideal.ofBits Ideal.ieee
  simp only [show (BitVec.extractLsb' (8 + 23) 1 (0xC2FC0000#32) == 1#1) = true from by decide,
    show (BitVec.extractLsb' 23 8 (0xC2FC0000#32)).toNat = 133 from by decide,
    show (BitVec.extractLsb' 0 23 (0xC2FC0000#32)).toNat = 8126464 from by decide]
  norm_num

theorem cmp_olt_true {x y : EReal} (h : x < y) : Ideal.cmp .olt x y = 1#1 := by
  show BitVec.ofBool (decide _) = _
  rw [decide_eq_true h]; rfl
theorem cmp_olt_false {x y : EReal} (h : ¬ x < y) : Ideal.cmp .olt x y = 0#1 := by
  show BitVec.ofBool (decide _) = _
  rw [decide_eq_false h]; rfl

/-- One exponent, in both spellings. -/
theorem exp_spec (a : EReal) : ∃ e : ℤ, -125 ≤ e ∧ e ≤ 128 ∧ kExp a = BitVec.ofInt 32 e ∧ rExp a = ((e : ℝ) : EReal) := by
  obtain ⟨f, hf, -, hl, hlo, hhi⟩ := kField_spec (a * Ideal.ofBits .f32 0x3B124925#32)
  have hk : kExp a = Scalar.select
    (IntOp.ori (IntOp.ori (IntOp.cmpi .eq (BitVec.ofNat 32 f) 0#32) (IntOp.cmpi .eq (BitVec.ofNat 32 f) 255#32))
      (Ideal.cmp .oeq a 0)) 0#32 (IntOp.subi (BitVec.ofNat 32 f) 126#32) := by
    rw [← hf, ← f32_zero]; rfl
  have hr : rExp a = Scalar.select
      (IntOp.ori (Ideal.cmp .olt (a * Ideal.ofBits .f32 0x3B124925#32) (fieldFloat 1))
        (Ideal.cmp .oeq (a * Ideal.ofBits .f32 0x3B124925#32) ⊤)) 0
      (min (Ideal.liftRound Int.floor (Ideal.div (Ideal.log (a * Ideal.ofBits .f32 0x3B124925#32)) (Ideal.log ((2 : ℝ) : EReal))) + ((1 : ℝ) : EReal))
        ((128 : ℝ) : EReal)) := by
    rw [← f32_top, ← f32_min, ← f32_two, ← f32_one, ← f32_128, ← f32_zero]; rfl
  have hz : a = 0 → a * Ideal.ofBits .f32 0x3B124925#32 = 0 := fun h => by rw [h, zero_mul]
  generalize a * Ideal.ofBits .f32 0x3B124925#32 = y at hlo hhi hr hz
  by_cases f0 : f = 0
  · refine ⟨0, by norm_num, by norm_num, ?_, ?_⟩
    · rw [hk, f0]
      unfold Scalar.select IntOp.ori IntOp.cmpi
      generalize Ideal.cmp .oeq a 0 = z
      revert z; decide
    · have : y < fieldFloat 1 := by
        rcases hhi with h | h
        · omega
        · rwa [f0] at h
      have e0 : Ideal.cmp .olt y (fieldFloat 1) = 1#1 := cmp_olt_true this
      rw [hr, e0]
      unfold Scalar.select IntOp.ori
      generalize Ideal.cmp .oeq y ⊤ = z
      rw [if_pos (by revert z; decide), Int.cast_zero, EReal.coe_zero]
  by_cases f1 : f = 255
  · have : y = ⊤ := by
      rcases hlo with h | h
      · exact absurd h f0
      · rw [f1, fieldFloat, if_pos rfl] at h; exact top_le_iff.mp h
    refine ⟨0, by norm_num, by norm_num, ?_, ?_⟩
    · rw [hk, f1]
      unfold Scalar.select IntOp.ori IntOp.cmpi
      generalize Ideal.cmp .oeq a 0 = z
      revert z; decide
    · rw [hr, this]
      unfold Scalar.select IntOp.ori Ideal.cmp
      simp
  have hlo' : fieldFloat f ≤ y := hlo.resolve_left f0
  have h1 : fieldFloat 1 ≤ y := (fieldFloat_mono (by omega) (by omega)).trans hlo'
  have ht : y < ⊤ := by
    rcases hhi with h | h
    · omega
    · exact h.trans_le le_top
  have hpos : (0 : EReal) < y := lt_of_lt_of_le (by
    rw [fieldFloat_of 1 (by norm_num) (by norm_num)]
    exact_mod_cast (by positivity : (0 : ℝ) < (2 : ℝ) ^ (((1 : ℕ) : ℤ) - 127))) h1
  have ha : a ≠ 0 := fun h => hpos.ne' (hz h)
  refine ⟨(f : ℤ) - 126, by omega, by omega, ?_, ?_⟩
  · rw [hk]
    have e0 : IntOp.cmpi .eq (BitVec.ofNat 32 f) 0#32 = 0#1 := by
      unfold IntOp.cmpi
      have : BitVec.ofNat 32 f ≠ 0#32 := fun h => by
        have := congrArg BitVec.toNat h
        simp at this; omega
      show BitVec.ofBool (_ == _) = _
      rw [beq_eq_false_iff_ne.mpr this]; rfl
    have e1 : IntOp.cmpi .eq (BitVec.ofNat 32 f) 255#32 = 0#1 := by
      unfold IntOp.cmpi
      have : BitVec.ofNat 32 f ≠ 255#32 := fun h => by
        have := congrArg BitVec.toNat h
        simp at this; omega
      show BitVec.ofBool (_ == _) = _
      rw [beq_eq_false_iff_ne.mpr this]; rfl
    have e2 : Ideal.cmp .oeq a 0 = 0#1 := by
      unfold Ideal.cmp; simp [ha]
    rw [e0, e1, e2]
    show BitVec.ofNat 32 f - 126#32 = _
    have hd : ∀ f : Fin 256, BitVec.ofNat 32 f.val - 126#32 = BitVec.ofInt 32 ((f.val : ℤ) - 126) := by decide +kernel
    exact hd ⟨f, by omega⟩
  · rw [hr]
    have e0 : Ideal.cmp .olt y (fieldFloat 1) = 0#1 := by
      show BitVec.ofBool (decide _) = _
      rw [decide_eq_false h1.not_gt]; rfl
    have e1 : Ideal.cmp .oeq y ⊤ = 0#1 := by
      unfold Ideal.cmp; simp [ht.ne]
    rw [e0, e1]
    show min _ _ = _
    induction y with
    | bot => exact absurd hpos (by simp)
    | top => exact absurd ht (by simp)
    | coe r =>
      have hr0 : 0 < r := by exact_mod_cast hpos
      have hl2 : (0 : ℝ) < Real.log 2 := Real.log_pos (by norm_num)
      rw [Ideal.log_coe, Ideal.log_coe, if_neg (by linarith), if_neg (by norm_num), Ideal.div_coe hl2.ne', ← EReal.coe_mul,
        Ideal.liftRound_coe, ← EReal.coe_add, mul_one_div]
      rw [fieldFloat_of f f0 f1] at hlo'
      have hlo'' : (2 : ℝ) ^ ((f : ℤ) - 127) ≤ r := by exact_mod_cast hlo'
      have hlow : (f : ℤ) - 127 ≤ ⌊Real.log r / Real.log 2⌋ := by
        rw [Int.le_floor, le_div_iff₀ hl2, ← Real.log_zpow]
        exact Real.log_le_log (by positivity) hlo''
      by_cases f4 : f = 254
      · have : (128 : ℝ) ≤ (⌊Real.log r / Real.log 2⌋ : ℝ) + 1 := by
          have : (127 : ℤ) ≤ ⌊Real.log r / Real.log 2⌋ := by omega
          have : (127 : ℝ) ≤ (⌊Real.log r / Real.log 2⌋ : ℝ) := by exact_mod_cast this
          linarith
        rw [min_eq_right (by exact_mod_cast this), f4]
        norm_num
      · rcases hhi with h | h
        · omega
        rw [fieldFloat_of (f + 1) (by omega) (by omega)] at h
        have h' : r < (2 : ℝ) ^ (((f + 1 : ℕ) : ℤ) - 127) := by exact_mod_cast h
        have hup : ⌊Real.log r / Real.log 2⌋ < (f : ℤ) - 126 := by
          rw [Int.floor_lt, div_lt_iff₀ hl2, ← Real.log_zpow]
          refine (Real.log_lt_log hr0 h').trans_eq ?_
          congr 2
          push_cast; ring
        have : ⌊Real.log r / Real.log 2⌋ = (f : ℤ) - 127 := by omega
        rw [this, min_eq_left]
        · congr 1; push_cast; ring
        · have : (f : ℝ) ≤ 253 := by exact_mod_cast (by omega : f ≤ 253)
          rw [EReal.coe_le_coe_iff]; push_cast; linarith

/-- The two spellings of `2^e` agree at every whole exponent from -128 to 128. -/
theorem pow2_eq (e : ℤ) (h0 : -128 ≤ e) (h1 : e ≤ 128) : kPow2 (BitVec.ofInt 32 e) = rPow2 ((e : ℝ) : EReal) := by
  have hb : ∀ n : Fin 257, IntOp.shli .vector
    (Scalar.select (IntOp.cmpi .sle (IntOp.addi (BitVec.ofInt 32 ((n.val : ℤ) - 128)) 127#32) 0#32) 0#32
      (Scalar.select (IntOp.cmpi .sge (IntOp.addi (BitVec.ofInt 32 ((n.val : ℤ) - 128)) 127#32) 255#32) 255#32
        (IntOp.addi (BitVec.ofInt 32 ((n.val : ℤ) - 128)) 127#32))) 23#32 = BitVec.ofNat 32 (n.val - 1) <<< 23 := by decide +kernel
  obtain ⟨n, hn⟩ : ∃ n : ℕ, e = (n : ℤ) - 128 := ⟨(e + 128).toNat, by omega⟩
  have hk : kPow2 (BitVec.ofInt 32 e) = fieldFloat (n - 1) := by
    subst hn
    refine Eq.trans ?_ (ofBits_field (n - 1) (by omega))
    exact congrArg (Ideal.ofBits .f32) (hb ⟨n, by omega⟩)
  have hr : rPow2 ((e : ℝ) : EReal) = Scalar.select (Ideal.cmp .olt ((e : ℝ) : EReal) ((-126 : ℝ) : EReal)) 0
      (Scalar.select (Ideal.cmp .ogt ((e : ℝ) : EReal) ((127 : ℝ) : EReal)) ⊤ (((2 : ℝ) ^ (e : ℝ) : ℝ) : EReal)) := by
    rw [← f32_m126, ← f32_127, ← f32_top, ← f32_zero]; rfl
  rw [hk, hr, show Ideal.cmp .ogt ((e : ℝ) : EReal) ((127 : ℝ) : EReal) = Ideal.cmp .olt ((127 : ℝ) : EReal) ((e : ℝ) : EReal) from rfl]
  by_cases c0 : e < -126
  · rw [cmp_olt_true (by rw [EReal.coe_lt_coe_iff]; exact_mod_cast c0)]
    show fieldFloat (n - 1) = 0
    unfold fieldFloat
    rw [if_neg (by omega), if_pos (by omega)]
  rw [cmp_olt_false (by rw [EReal.coe_lt_coe_iff]; exact_mod_cast c0)]
  by_cases c1 : 127 < e
  · rw [cmp_olt_true (by rw [EReal.coe_lt_coe_iff]; exact_mod_cast c1)]
    show fieldFloat (n - 1) = ⊤
    unfold fieldFloat
    rw [if_pos (by omega)]
  rw [cmp_olt_false (by rw [EReal.coe_lt_coe_iff]; exact_mod_cast c1)]
  show fieldFloat (n - 1) = (((2 : ℝ) ^ (e : ℝ) : ℝ) : EReal)
  rw [fieldFloat_of _ (by omega) (by omega), Real.rpow_intCast]
  congr 2
  omega

theorem scale_eq (a : EReal) : kPow2 (kExp a) = rPow2 (rExp a) := by
  obtain ⟨e, h0, h1, hk, hr⟩ := exp_spec a
  rw [hk, hr, pow2_eq e (by omega) h1]

theorem inverse_eq (a : EReal) : kPow2 (IntOp.subi 0#32 (kExp a)) = rPow2 (FloatOps.subf (FloatOps.ofBits .f32 0x00000000#32 : Ideal .f32) (rExp a)) := by
  obtain ⟨e, h0, h1, hk, hr⟩ := exp_spec a
  rw [hk, hr]
  have : IntOp.subi 0#32 (BitVec.ofInt 32 e) = BitVec.ofInt 32 (-e) := by
    rw [BitVec.ofInt_neg]; exact BitVec.zero_sub _
  rw [this, pow2_eq (-e) (by omega) (by omega)]
  congr 1
  show _ = Ideal.ofBits .f32 0x00000000#32 - ((e : ℝ) : EReal)
  rw [f32_zero, zero_sub, ← EReal.coe_neg]
  push_cast; rfl

end Cert.Work
end
-- ==== Proof.Tile.lean ====
module

public import proofs.«01_k».proof.Proof.Gen.KernelIdeal.Frame
public import Idealize.ShloMosaic.Lib.Pipeline.ValueKit
public import Idealize.ShloMosaic.Lib.Pipeline.ReadBack
public import proofs.«01_k».proof.Proof.Scale

@[expose] public section

/-! # What one 128×128 tile computes

The kernel's body is 64 tiles of one form. The terms of the first tile stand here for all of them: the tile's
codes, its row of scales and its requantised values, from the tile's codes and row scales. -/
set_option maxRecDepth 16384
noncomputable section
namespace Cert.Work
open Cert.KernelIdeal Cert.KernelIdeal.Gen Idealize.ShloMosaic Idealize.ShloMosaic.TcCoe Idealize.SL.Sem

/-- The tile's exponents. -/
def tileExp (v0 : Vec Ideal S128x128 .fp8e4m3) (v3 : Vec Ideal S128x1 .f32) : IVec S1x128 32 :=
  k0_pay8 (k0_pay4 v0 v3) (k0_pay5 v0 v3) (k0_pay6 v0 v3) (k0_pay7 v0 v3)

/-- The tile's codes. -/
def tileCodes (v0 : Vec Ideal S128x128 .fp8e4m3) (v3 : Vec Ideal S128x1 .f32) : FVec Ideal S128x128 .fp8e4m3 :=
  k0_pay13 (k0_pay3 v0 v3) (tileExp v0 v3)

/-- The tile's scales. -/
def tileScale (v0 : Vec Ideal S128x128 .fp8e4m3) (v3 : Vec Ideal S128x1 .f32) : FVec Ideal S1x1x128 .f32 :=
  k0_pay14 (k0_pay9 (k0_pay4 v0 v3) (k0_pay5 v0 v3) (k0_pay6 v0 v3) (k0_pay7 v0 v3))
    (k0_pay10 (k0_pay4 v0 v3) (k0_pay5 v0 v3) (k0_pay6 v0 v3) (k0_pay7 v0 v3))
    (k0_pay11 (k0_pay4 v0 v3) (k0_pay5 v0 v3) (k0_pay6 v0 v3) (k0_pay7 v0 v3)) 255#32

/-- The tile's codes times its scales. -/
def tileX (v0 : Vec Ideal S128x128 .fp8e4m3) (v3 : Vec Ideal S128x1 .f32) : FVec Ideal S128x128 .bf16 :=
  k0_pay15 (k0_pay3 v0 v3) (tileExp v0 v3)
    (k0_pay9 (k0_pay4 v0 v3) (k0_pay5 v0 v3) (k0_pay6 v0 v3) (k0_pay7 v0 v3))
    (k0_pay10 (k0_pay4 v0 v3) (k0_pay5 v0 v3) (k0_pay6 v0 v3) (k0_pay7 v0 v3))
    (k0_pay11 (k0_pay4 v0 v3) (k0_pay5 v0 v3) (k0_pay6 v0 v3) (k0_pay7 v0 v3)) 255#32

/-! ## The body's stores -/

/-- The tiles, the last stored first: block of rows, block of columns. -/
def tiles : List (Fin 4 × Fin 16) :=
  [3, 2, 1, 0].flatMap fun b => [15, 14, 13, 12, 11, 10, 9, 8, 7, 6, 5, 4, 3, 2, 1, 0].map fun g => (b, g)

/-- Tile `(b, g)` of the codes read. -/
def tIn (x0 : Vec Ideal S512x2048 .fp8e4m3) (b : Fin 4) (g : Fin 16) : Vec Ideal S128x128 .fp8e4m3 :=
  View.ld x0 (Rect.unit (s := S512x2048) ![128 * b.val, 128 * g.val] ![128, 128] (by
    intro a; fin_cases a
    · show 128 * b.val + 128 ≤ 512; omega
    · show 128 * g.val + 128 ≤ 2048; omega))

/-- The tile's row scales. -/
def tRow (x1 : Vec Ideal S512x16 .f32) (b : Fin 4) (g : Fin 16) : Vec Ideal S128x1 .f32 :=
  View.ld x1 (Rect.unit (s := S512x16) ![128 * b.val, g.val] ![128, 1] (by
    intro a; fin_cases a
    · show 128 * b.val + 128 ≤ 512; omega
    · show g.val + 1 ≤ 16; omega))

def codesPiece (x0 : Vec Ideal S512x2048 .fp8e4m3) (x1 : Vec Ideal S512x16 .f32) (b : Fin 4) (g : Fin 16) :
    View.Piece (Elt Ideal) S512x2048 .fp8e4m3 :=
  ⟨Rect.unit ![128 * b.val, 128 * g.val] ![128, 128] (by
    intro a; fin_cases a
    · show 128 * b.val + 128 ≤ 512; omega
    · show 128 * g.val + 128 ≤ 2048; omega), tileCodes (tIn x0 b g) (tRow x1 b g)⟩

def xPiece (x0 : Vec Ideal S512x2048 .fp8e4m3) (x1 : Vec Ideal S512x16 .f32) (b : Fin 4) (g : Fin 16) :
    View.Piece (Elt Ideal) S512x2048 .bf16 :=
  ⟨Rect.unit ![128 * b.val, 128 * g.val] ![128, 128] (by
    intro a; fin_cases a
    · show 128 * b.val + 128 ≤ 512; omega
    · show 128 * g.val + 128 ≤ 2048; omega), tileX (tIn x0 b g) (tRow x1 b g)⟩

def scalePiece (x0 : Vec Ideal S512x2048 .fp8e4m3) (x1 : Vec Ideal S512x16 .f32) (b : Fin 4) (g : Fin 16) :
    View.Piece (Elt Ideal) S1x4x2048 .f32 :=
  ⟨Rect.unit ![0, b.val, 128 * g.val] ![1, 1, 128] (by
    intro a; fin_cases a
    · show 0 + 1 ≤ 1; omega
    · show b.val + 1 ≤ 4; omega
    · show 128 * g.val + 128 ≤ 2048; omega), tileScale (tIn x0 b g) (tRow x1 b g)⟩

def dyPiece (x2 : Vec Ideal S512x2304 .fp8e5m2) (x3 : Vec Ideal S1x4x2304 .f32) (b : Fin 4) :
    View.Piece (Elt Ideal) S512x2304 .bf16 :=
  ⟨Rect.unit ![128 * b.val, 0] ![128, 2304] (by
    intro a; fin_cases a
    · show 128 * b.val + 128 ≤ 512; omega
    · show 0 + 2304 ≤ 2304; omega),
   k0_pay1 (View.ld x2 (Rect.unit (s := S512x2304) ![128 * b.val, 0] ![128, 2304] (by
    intro a; fin_cases a
    · show 128 * b.val + 128 ≤ 512; omega
    · show 0 + 2304 ≤ 2304; omega)))
    (View.ld x3 (Rect.unit (s := S1x4x2304) ![0, b.val, 0] ![1, 1, 2304] (by
    intro a; fin_cases a
    · show 0 + 1 ≤ 1; omega
    · show b.val + 1 ≤ 4; omega
    · show 0 + 2304 ≤ 2304; omega)))⟩

def codesPieces (x0 : Vec Ideal S512x2048 .fp8e4m3) (x1 : Vec Ideal S512x16 .f32) := tiles.map fun p => codesPiece x0 x1 p.1 p.2
def xPieces (x0 : Vec Ideal S512x2048 .fp8e4m3) (x1 : Vec Ideal S512x16 .f32) := tiles.map fun p => xPiece x0 x1 p.1 p.2
def scalePieces (x0 : Vec Ideal S512x2048 .fp8e4m3) (x1 : Vec Ideal S512x16 .f32) := tiles.map fun p => scalePiece x0 x1 p.1 p.2
def dyPieces (x2 : Vec Ideal S512x2304 .fp8e5m2) (x3 : Vec Ideal S1x4x2304 .f32) :=
  [3, 2, 1, 0].map fun b => dyPiece x2 x3 b

end Cert.Work
end
-- ==== Proof.Body.lean ====
module

public import proofs.«01_k».proof.Proof.Tile

@[expose] public section

/-! # What the body leaves at one grid point

The stores of the 64 tiles, opened once per result and per case (the first point, which starts the accumulator,
and every other), as the lists of `Tile`. -/
set_option maxRecDepth 16384
noncomputable section
namespace Cert.Work
open Cert.KernelIdeal Cert.KernelIdeal.Gen Idealize.ShloMosaic Idealize.ShloMosaic.TcCoe Idealize.SL.Sem
variable (m : (ℓ : Loc nD τ sig) → Buf (Elt Ideal) ℓ)

/-- A load of a whole buffer reads each index from itself. -/
theorem whole_idx {s : Shape} (off : Fin s.rank → ℕ) (inb : ∀ a, off a + s.size a ≤ s.size a)
    (h : ∀ a, off a = 0) (j : s.Idx) : (Rect.unit off s.size inb).toLoadRect.idx j = j :=
  funext fun a => Fin.ext (by show off a + 1 * (j a).val = (j a).val; rw [h a]; omega)

/-- The scales a point leaves. -/
theorem scales_at (c : Dev nD) (t : Fin cfg0.N) :
    (outsAt0 m c t.val t.isLt).2.2 = View.canon (scalePieces (iblk m c 0 t) (iblk m c 1 t)) := by
  by_cases h0 : t.val % 300 = 0
  · rw [outsAt0_A m c t h0]
    funext y
    frame_out
    refine congrArg (fun L => View.canon L y) ?_
    sl_kernel_rfl
  · rw [outsAt0_B m c t h0]
    funext y
    frame_out
    refine congrArg (fun L => View.canon L y) ?_
    sl_kernel_rfl

/-- The codes a point leaves. -/
theorem codes_at (c : Dev nD) (t : Fin cfg0.N) :
    (outsAt0 m c t.val t.isLt).2.1 = View.canon (codesPieces (iblk m c 0 t) (iblk m c 1 t)) := by
  by_cases h0 : t.val % 300 = 0
  · rw [outsAt0_A m c t h0]
    funext y
    frame_out
    refine congrArg (fun L => View.canon L y) ?_
    sl_kernel_rfl
  · rw [outsAt0_B m c t h0]
    funext y
    frame_out
    refine congrArg (fun L => View.canon L y) ?_
    sl_kernel_rfl

/-- One point's contribution added to what the accumulator held. -/
def accAt (c : Dev nD) (t : Fin cfg0.N) (acc : Vec Ideal S2048x2304 .f32) : Vec Ideal S2048x2304 .f32 :=
  k0_pay2 acc (View.canon (xPieces (iblk m c 0 t) (iblk m c 1 t))) (View.canon (dyPieces (iblk m c 2 t) (iblk m c 3 t)))

theorem acc_first (c : Dev nD) (t : Fin cfg0.N) (h0 : t.val % 300 = 0) :
    (outsAt0 m c t.val t.isLt).1 = accAt m c t (iblk m c 4 t) := by
  rw [outsAt0_A m c t h0]
  funext y
  frame_out
  refine congrArg₂ (fun X Y => k0_pay2 _ X Y y) ?_ ?_
  · refine (View.readCov_eq_canon' _ _ _).trans (funext fun j => congrArg₂ View.canon ?_ (whole_idx _ _ (by decide) j))
    sl_kernel_rfl
  · refine (View.readCov_eq_canon' _ _ _).trans (funext fun j => congrArg₂ View.canon ?_ (whole_idx _ _ (by decide) j))
    sl_kernel_rfl
theorem acc_next (c : Dev nD) (t : Fin cfg0.N) (h0 : ¬t.val % 300 = 0) :
    (outsAt0 m c t.val t.isLt).1 = accAt m c t (outsAt0 m c (t.val - 1) (by omega)).1 := by
  rw [outsAt0_B m c t h0]
  funext y
  frame_out
  refine congrArg₂ (fun X Y => k0_pay2 _ X Y y) ?_ ?_
  · refine (View.readCov_eq_canon' _ _ _).trans (funext fun j => congrArg₂ View.canon ?_ (whole_idx _ _ (by decide) j))
    sl_kernel_rfl
  · refine (View.readCov_eq_canon' _ _ _).trans (funext fun j => congrArg₂ View.canon ?_ (whole_idx _ _ (by decide) j))
    sl_kernel_rfl
end Cert.Work
end
-- ==== Proof.Pointwise.lean ====
module

public import proofs.«01_k».proof.Proof.Body
public import Idealize.ShloMosaic.Lib.Pointwise

@[expose] public section

/-! # A tile, element by element

Every element of a tile's codes, scales and requantised values, from the column's greatest magnitude. -/
set_option maxRecDepth 16384
noncomputable section
namespace Cert.Work
open Cert.KernelIdeal Cert.KernelIdeal.Gen Idealize.ShloMosaic Idealize.ShloMosaic.TcCoe Idealize.SL.Sem

/-- The greatest magnitude of a column of 128 values. -/
def colMax (f : Fin 128 → EReal) : EReal :=
  Finset.univ.fold max (Ideal.ofBits .f32 0xFF800000#32) fun k => max (f k) (-f k)

/-- A value's code: scaled and clipped to ±448. -/
def codeOf (x a : EReal) : EReal :=
  min (Ideal.ofBits .f32 0x43E00000#32) (max (Ideal.ofBits .f32 0xC3E00000#32) (x * kPow2 (IntOp.subi 0#32 (kExp a))))

theorem amax_apply (v0 : Vec Ideal S128x128 .fp8e4m3) (v3 : Vec Ideal S128x1 .f32) (j : Fin 128) :
    (k0_pay4 v0 v3 (ix2 0 j) : EReal) = colMax fun r => v0 (ix2 r j) * v3 (ix2 r 0) := by
  unfold colMax
  pointwise [k0_pay4, k0_pay3]
  rfl

theorem exp_apply (v0 : Vec Ideal S128x128 .fp8e4m3) (v3 : Vec Ideal S128x1 .f32) (i : S1x128.Idx) :
    tileExp v0 v3 i = kExp (k0_pay4 v0 v3 i) := by
  sl_kernel_rfl

theorem scale_apply (v0 : Vec Ideal S128x128 .fp8e4m3) (v3 : Vec Ideal S128x1 .f32) (j : Fin 128) :
    (tileScale v0 v3 (ix3 0 0 j) : EReal) = kPow2 (kExp (k0_pay4 v0 v3 (ix2 0 j))) := by
  rw [← exp_apply]
  unfold tileScale
  pointwise [k0_pay14]
  sl_kernel_rfl

theorem codes_apply (v0 : Vec Ideal S128x128 .fp8e4m3) (v3 : Vec Ideal S128x1 .f32) (r j : Fin 128) :
    (tileCodes v0 v3 (ix2 r j) : EReal) = codeOf (v0 (ix2 r j) * v3 (ix2 r 0)) (k0_pay4 v0 v3 (ix2 0 j)) := by
  unfold codeOf
  rw [← exp_apply]
  unfold tileCodes
  generalize tileExp v0 v3 = e
  pointwise [k0_pay13, k0_pay3]
  rfl

theorem x_apply (v0 : Vec Ideal S128x128 .fp8e4m3) (v3 : Vec Ideal S128x1 .f32) (r j : Fin 128) :
    (tileX v0 v3 (ix2 r j) : EReal) = codeOf (v0 (ix2 r j) * v3 (ix2 r 0)) (k0_pay4 v0 v3 (ix2 0 j)) * kPow2 (kExp (k0_pay4 v0 v3 (ix2 0 j))) := by
  rw [← codes_apply, ← exp_apply]
  unfold tileCodes
  show k0_pay15 (k0_pay3 v0 v3) (tileExp v0 v3) _ _ _ _ _ = _
  pointwise [k0_pay15]
  sl_kernel_rfl

theorem dy_apply (v0 : Vec Ideal S128x2304 .fp8e5m2) (v3 : Vec Ideal S1x1x2304 .f32) (r : Fin 128) (j : Fin 2304) :
    (k0_pay1 v0 v3 (ix2 r j) : EReal) = v0 (ix2 r j) * v3 (ix3 0 0 j) := by
  pointwise [k0_pay1]

theorem acc_apply (acc : Vec Ideal S2048x2304 .f32) (x : Vec Ideal S512x2048 .bf16) (y : Vec Ideal S512x2304 .bf16) (d : Fin 2048) (e : Fin 2304) :
    (k0_pay2 acc x y (ix2 d e) : EReal) = acc (ix2 d e) + ∑ k : Fin 512, x (ix2 k d) * y (ix2 k e) := by
  pointwise [k0_pay2]

/-! ## One grid point's block -/

/-- A value of the block: its code times its row's scale. -/
def blkX (x0 : Vec Ideal S512x2048 .fp8e4m3) (x1 : Vec Ideal S512x16 .f32) (r : Fin 512) (d : Fin 2048) : EReal :=
  x0 (ix2 r d) * x1 (ix2 r ⟨d.val / 128, by omega⟩)

/-- The greatest magnitude of column `d` in the block's group `b` of 128 rows. -/
def blkMax (x0 : Vec Ideal S512x2048 .fp8e4m3) (x1 : Vec Ideal S512x16 .f32) (b : Fin 4) (d : Fin 2048) : EReal :=
  colMax fun r => blkX x0 x1 ⟨128 * b.val + r.val, by omega⟩ d

theorem tile_x (x0 : Vec Ideal S512x2048 .fp8e4m3) (x1 : Vec Ideal S512x16 .f32) (b : Fin 4) (g : Fin 16) (r j : Fin 128) :
    (tIn x0 b g (ix2 r j) * tRow x1 b g (ix2 r 0) : EReal) = blkX x0 x1 ⟨128 * b.val + r.val, by omega⟩ ⟨128 * g.val + j.val, by omega⟩ := by
  unfold tIn tRow blkX
  rw [View.ld_unit_apply_of x0 _ _ _ _ (ix2 ⟨128 * b.val + r.val, by omega⟩ ⟨128 * g.val + j.val, by omega⟩) (by intro a; fin_cases a <;> rfl),
    View.ld_unit_apply_of x1 _ _ _ _ (ix2 ⟨128 * b.val + r.val, by omega⟩ ⟨(128 * g.val + j.val) / 128, by omega⟩) (by
      intro a; fin_cases a
      · rfl
      · show (128 * g.val + j.val) / 128 = g.val + 0; omega)]

theorem tile_max (x0 : Vec Ideal S512x2048 .fp8e4m3) (x1 : Vec Ideal S512x16 .f32) (b : Fin 4) (g : Fin 16) (j : Fin 128) :
    (k0_pay4 (tIn x0 b g) (tRow x1 b g) (ix2 0 j) : EReal) = blkMax x0 x1 b ⟨128 * g.val + j.val, by omega⟩ := by
  rw [amax_apply]
  exact congrArg colMax (funext fun r => tile_x x0 x1 b g r j)

/-- The block of codes. -/
def blkCodes (x0 : Vec Ideal S512x2048 .fp8e4m3) (x1 : Vec Ideal S512x16 .f32) : Vec Ideal S512x2048 .fp8e4m3 :=
  fun y => codeOf (blkX x0 x1 (y 0) (y 1)) (blkMax x0 x1 ⟨(y 0).val / 128, by have : (y 0).val < 512 := (y 0).isLt; omega⟩ (y 1))

/-- The block of scales. -/
def blkScales (x0 : Vec Ideal S512x2048 .fp8e4m3) (x1 : Vec Ideal S512x16 .f32) : Vec Ideal S1x4x2048 .f32 :=
  fun y => kPow2 (kExp (blkMax x0 x1 (y 1) (y 2)))

/-- The block of requantised values. -/
def blkXb (x0 : Vec Ideal S512x2048 .fp8e4m3) (x1 : Vec Ideal S512x16 .f32) : Vec Ideal S512x2048 .bf16 :=
  fun y => (blkCodes x0 x1 y : EReal) * kPow2 (kExp (blkMax x0 x1 ⟨(y 0).val / 128, by have : (y 0).val < 512 := (y 0).isLt; omega⟩ (y 1)))

/-- The block of output gradients. -/
def blkDy (x2 : Vec Ideal S512x2304 .fp8e5m2) (x3 : Vec Ideal S1x4x2304 .f32) : Vec Ideal S512x2304 .bf16 :=
  fun y => ((x2 y : EReal) * x3 (ix3 0 ⟨(y 0).val / 128, by have : (y 0).val < 512 := (y 0).isLt; omega⟩ (y 1)) : EReal)

theorem canon_codes (x0 : Vec Ideal S512x2048 .fp8e4m3) (x1 : Vec Ideal S512x16 .f32) :
    View.canon (codesPieces x0 x1) = blkCodes x0 x1 := by
  funext y
  refine View.canon_apply_of_pieces _ _ (fun p hp x => ?_) y (View.cover_of_tiledL _ ![128, 128] (by sl_kernel_rfl) y)
  obtain ⟨⟨b, g⟩, -, rfl⟩ := List.mem_map.mp hp
  obtain ⟨r, j, rfl⟩ : ∃ r j : Fin 128, x = ix2 r j := ⟨x 0, x 1, eq_ix2 x⟩
  refine (codes_apply _ _ r j).trans ?_
  rw [tile_x, tile_max]
  unfold blkCodes
  refine congrArg₂ codeOf (congrArg₂ (blkX x0 x1) (Fin.ext ?_) (Fin.ext ?_)) (congrArg₂ (blkMax x0 x1) (Fin.ext ?_) (Fin.ext ?_))
  · show 128 * b.val + r.val = 128 * b.val + 1 * r.val; omega
  · show 128 * g.val + j.val = 128 * g.val + 1 * j.val; omega
  · show b.val = (128 * b.val + 1 * r.val) / 128; omega
  · show 128 * g.val + j.val = 128 * g.val + 1 * j.val; omega

theorem canon_x (x0 : Vec Ideal S512x2048 .fp8e4m3) (x1 : Vec Ideal S512x16 .f32) :
    View.canon (xPieces x0 x1) = blkXb x0 x1 := by
  funext y
  refine View.canon_apply_of_pieces _ _ (fun p hp x => ?_) y (View.cover_of_tiledL _ ![128, 128] (by sl_kernel_rfl) y)
  obtain ⟨⟨b, g⟩, -, rfl⟩ := List.mem_map.mp hp
  obtain ⟨r, j, rfl⟩ : ∃ r j : Fin 128, x = ix2 r j := ⟨x 0, x 1, eq_ix2 x⟩
  refine (x_apply _ _ r j).trans ?_
  rw [tile_x, tile_max]
  unfold blkXb blkCodes
  refine congrArg₂ (fun a b : EReal => a * b)
    (congrArg₂ codeOf (congrArg₂ (blkX x0 x1) (Fin.ext ?_) (Fin.ext ?_)) (congrArg₂ (blkMax x0 x1) (Fin.ext ?_) (Fin.ext ?_)))
    (congrArg (fun a => kPow2 (kExp a)) (congrArg₂ (blkMax x0 x1) (Fin.ext ?_) (Fin.ext ?_)))
  · show 128 * b.val + r.val = 128 * b.val + 1 * r.val; omega
  · show 128 * g.val + j.val = 128 * g.val + 1 * j.val; omega
  · show b.val = (128 * b.val + 1 * r.val) / 128; omega
  · show 128 * g.val + j.val = 128 * g.val + 1 * j.val; omega
  · show b.val = (128 * b.val + 1 * r.val) / 128; omega
  · show 128 * g.val + j.val = 128 * g.val + 1 * j.val; omega

theorem canon_scales (x0 : Vec Ideal S512x2048 .fp8e4m3) (x1 : Vec Ideal S512x16 .f32) :
    View.canon (scalePieces x0 x1) = blkScales x0 x1 := by
  funext y
  refine View.canon_apply_of_pieces _ _ (fun p hp x => ?_) y (View.cover_of_tiledL _ ![1, 1, 128] (by sl_kernel_rfl) y)
  obtain ⟨⟨b, g⟩, -, rfl⟩ := List.mem_map.mp hp
  obtain ⟨j, rfl⟩ : ∃ j : Fin 128, x = ix3 (0 : Fin 1) (0 : Fin 1) j :=
    ⟨x 2, (eq_ix3 x).trans (congrArg₂ (fun a b => ix3 a b (x 2)) (Subsingleton.elim (α := Fin 1) _ _) (Subsingleton.elim (α := Fin 1) _ _))⟩
  refine (scale_apply _ _ j).trans ?_
  rw [tile_max]
  unfold blkScales
  refine congrArg (fun a => kPow2 (kExp a)) (congrArg₂ (blkMax x0 x1) (Fin.ext ?_) (Fin.ext ?_))
  · show b.val = b.val + 1 * 0; omega
  · show 128 * g.val + j.val = 128 * g.val + 1 * j.val; omega

theorem canon_dy (x2 : Vec Ideal S512x2304 .fp8e5m2) (x3 : Vec Ideal S1x4x2304 .f32) :
    View.canon (dyPieces x2 x3) = blkDy x2 x3 := by
  funext y
  refine View.canon_apply_of_pieces _ _ (fun p hp x => ?_) y (View.cover_of_tiledL _ ![128, 2304] (by sl_kernel_rfl) y)
  obtain ⟨b, -, rfl⟩ := List.mem_map.mp hp
  obtain ⟨r, j, rfl⟩ : ∃ (r : Fin 128) (j : Fin 2304), x = ix2 r j := ⟨x 0, x 1, eq_ix2 x⟩
  refine (dy_apply _ _ r j).trans ?_
  unfold blkDy
  rw [View.ld_unit_apply_of x2 _ _ _ _ ((dyPiece x2 x3 b).1.emb (ix2 r j)) (by
      intro a; fin_cases a
      · show 128 * b.val + 1 * r.val = 128 * b.val + r.val; omega
      · show 0 + 1 * j.val = 0 + j.val; omega)]
  refine congrArg (fun a : EReal => _ * a) (View.ld_unit_apply_of x3 _ _ _ _ _ ?_)
  intro a; fin_cases a
  · rfl
  · show (128 * b.val + 1 * r.val) / 128 = b.val + 0; omega
  · show 0 + 1 * j.val = 0 + j.val; omega

end Cert.Work
end
-- ==== Proof.Spec.lean ====
module

public import proofs.«01_k».proof.Proof.Pointwise

@[expose] public section

/-! # What the arrays hold

The requantisation and the weight gradient as functions of the five arguments: row `R` of 153600 tokens, column
`d` of the inputs, column `e` of the output gradients, block `q` of 128 tokens. -/
set_option maxRecDepth 16384
noncomputable section
namespace Cert.Work
open Cert.KernelIdeal Cert.KernelIdeal.Gen Idealize.ShloMosaic Idealize.ShloMosaic.TcCoe Idealize.SL.Sem

variable (A0 : Vec Ideal S10x15360x2048 .fp8e4m3) (A1 : Vec Ideal S10x15360x16 .f32)
  (A2 : Vec Ideal S10x15360x2304 .fp8e5m2) (A3 : Vec Ideal S10x120x2304 .f32) (A4 : Vec Ideal S2048x2304 .f32)

/-- The input: its code times its row's scale. -/
def xAt (R : Fin 153600) (d : Fin 2048) : EReal :=
  A0 (ix3 ⟨R.val / 15360, by omega⟩ ⟨R.val % 15360, by omega⟩ d)
    * A1 (ix3 ⟨R.val / 15360, by omega⟩ ⟨R.val % 15360, by omega⟩ ⟨d.val / 128, by omega⟩)

/-- The greatest magnitude of column `d` in block `q`. -/
def amaxAt (q : Fin 1200) (d : Fin 2048) : EReal :=
  colMax fun r => xAt A0 A1 ⟨128 * q.val + r.val, by omega⟩ d

def codeAt (R : Fin 153600) (d : Fin 2048) : EReal :=
  codeOf (xAt A0 A1 R d) (amaxAt A0 A1 ⟨R.val / 128, by omega⟩ d)

def scaleAt (q : Fin 1200) (d : Fin 2048) : EReal := kPow2 (kExp (amaxAt A0 A1 q d))

/-- The output gradient: its code times its block's scale. -/
def dyAt (R : Fin 153600) (e : Fin 2304) : EReal :=
  A2 (ix3 ⟨R.val / 15360, by omega⟩ ⟨R.val % 15360, by omega⟩ e)
    * A3 (ix3 ⟨R.val / 15360, by omega⟩ ⟨R.val / 128 % 120, by omega⟩ e)

/-- Token `R`'s share of element `(d, e)` of the weight gradient. -/
def termAt (R : Fin 153600) (d : Fin 2048) (e : Fin 2304) : EReal :=
  codeAt A0 A1 R d * scaleAt A0 A1 ⟨R.val / 128, by omega⟩ d * dyAt A2 A3 R e

/-- The first result. -/
def outArr : Vec Ideal S2048x2304 .f32 :=
  fun y => (A4 y + ∑ R : Fin 153600, termAt A0 A1 A2 A3 R (y 0) (y 1) : EReal)

/-- The second result. -/
def codeArr : Vec Ideal S153600x2048 .fp8e4m3 := fun y => codeAt A0 A1 (y 0) (y 1)

/-- The third result. -/
def scaleArr : Vec Ideal S300x4x2048 .f32 := fun y =>
  scaleAt A0 A1 ⟨4 * (y 0).val + (y 1).val, by
    have h0 : (y 0).val < 300 := (y 0).isLt
    have h1 : (y 1).val < 4 := (y 1).isLt
    omega⟩ (y 2)

end Cert.Work
end
-- ==== Proof.KernelValue.lean ====
module

public import proofs.«01_k».proof.Proof.Spec
public import proofs.«01_k».proof.Proof.Gen.KernelIdeal.Value

@[expose] public section

/-! # What the kernel's arrays hold after the run -/
set_option maxRecDepth 16384
noncomputable section
namespace Cert.Work
open Cert.KernelIdeal Cert.KernelIdeal.Gen Idealize.ShloMosaic Idealize.ShloMosaic.TcCoe Idealize.SL.Sem
variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![t.val, 0, 0] ∧ win0_4.index t = ![0, 0] ∧ win0_5.index t = ![0, 0] ∧ win0_6.index t = ![t.val, 0]
    ∧ win0_7.index t = ![t.val, 0, 0] := by decide +kernel

theorem points : cfg0.N = 300 := N_0

theorem lt300 (t : Fin cfg0.N) : t.val < 300 := t.isLt.trans_eq N_0

abbrev a0 (c : Dev nD) : Vec Ideal S10x15360x2048 .fp8e4m3 := m ((c : Thread nD τ).loc main_arg0)
abbrev a1 (c : Dev nD) : Vec Ideal S10x15360x16 .f32 := m ((c : Thread nD τ).loc main_arg1)
abbrev a2 (c : Dev nD) : Vec Ideal S10x15360x2304 .fp8e5m2 := m ((c : Thread nD τ).loc main_arg2)
abbrev a3 (c : Dev nD) : Vec Ideal S10x120x2304 .f32 := m ((c : Thread nD τ).loc main_arg3)
abbrev a4 (c : Dev nD) : Vec Ideal S2048x2304 .f32 := m ((c : Thread nD τ).loc main_arg4)

theorem read0 (c : Dev nD) (t : Fin cfg0.N) (r : Fin 512) (d : Fin 2048) :
    iblk m c 0 t (ix2 r d) = a0 m c (ix3 ⟨(512 * t.val + r.val) / 15360, by have := lt300 t; omega⟩ ⟨(512 * t.val + r.val) % 15360, by omega⟩ d) := by
  blk_simp [iblk, V, idx t]
  entry_read
  pointwise
  blk_ext [idx t]

theorem read1 (c : Dev nD) (t : Fin cfg0.N) (r : Fin 512) (d : Fin 16) :
    iblk m c 1 t (ix2 r d) = a1 m c (ix3 ⟨(512 * t.val + r.val) / 15360, by have := lt300 t; omega⟩ ⟨(512 * t.val + r.val) % 15360, by omega⟩ d) := by
  blk_simp [iblk, V, idx t]
  entry_read
  pointwise
  blk_ext [idx t]

theorem read2 (c : Dev nD) (t : Fin cfg0.N) (r : Fin 512) (d : Fin 2304) :
    iblk m c 2 t (ix2 r d) = a2 m c (ix3 ⟨(512 * t.val + r.val) / 15360, by have := lt300 t; omega⟩ ⟨(512 * t.val + r.val) % 15360, by omega⟩ d) := by
  blk_simp [iblk, V, idx t]
  entry_read
  pointwise
  blk_ext [idx t]

theorem read3 (c : Dev nD) (t : Fin cfg0.N) (b : Fin 4) (d : Fin 2304) :
    iblk m c 3 t (ix3 0 b d) = a3 m c (ix3 ⟨(4 * t.val + b.val) / 120, by have := lt300 t; omega⟩ ⟨(4 * t.val + b.val) % 120, by omega⟩ d) := by
  blk_simp [iblk, V, idx t]
  entry_read
  pointwise
  blk_ext [idx t]

theorem read4 (c : Dev nD) (t : Fin cfg0.N) (y : S2048x2304.Idx) :
    iblk m c 4 t y = a4 m c y := by
  blk_ext [iblk, V, idx t]

/-! ## One point's blocks, by the arguments -/

theorem blkX_eq (c : Dev nD) (t : Fin cfg0.N) (r : Fin 512) (d : Fin 2048) :
    blkX (iblk m c 0 t) (iblk m c 1 t) r d = xAt (a0 m c) (a1 m c) ⟨512 * t.val + r.val, by have := lt300 t; omega⟩ d := by
  unfold blkX xAt
  rw [read0, read1]

theorem blkMax_eq (c : Dev nD) (t : Fin cfg0.N) (b : Fin 4) (d : Fin 2048) :
    blkMax (iblk m c 0 t) (iblk m c 1 t) b d = amaxAt (a0 m c) (a1 m c) ⟨4 * t.val + b.val, by have := lt300 t; omega⟩ d := by
  unfold blkMax amaxAt
  refine congrArg colMax (funext fun r => (blkX_eq m c t _ d).trans (congrArg (fun R => xAt (a0 m c) (a1 m c) R d) (Fin.ext ?_)))
  show 512 * t.val + (128 * b.val + r.val) = 128 * (4 * t.val + b.val) + r.val
  omega

theorem blkCodes_eq (c : Dev nD) (t : Fin cfg0.N) (r : Fin 512) (d : Fin 2048) :
    blkCodes (iblk m c 0 t) (iblk m c 1 t) (ix2 r d)
      = codeAt (a0 m c) (a1 m c) ⟨512 * t.val + r.val, by have := lt300 t; omega⟩ d := by
  unfold codeAt
  refine (congrArg₂ codeOf (blkX_eq m c t r d) (blkMax_eq m c t _ d)).trans ?_
  refine congrArg (fun q => codeOf _ (amaxAt (a0 m c) (a1 m c) q d)) (Fin.ext ?_)
  show 4 * t.val + r.val / 128 = (512 * t.val + r.val) / 128
  omega

theorem blkXb_eq (c : Dev nD) (t : Fin cfg0.N) (r : Fin 512) (d : Fin 2048) :
    (blkXb (iblk m c 0 t) (iblk m c 1 t) (ix2 r d) : EReal)
      = codeAt (a0 m c) (a1 m c) ⟨512 * t.val + r.val, by have := lt300 t; omega⟩ d
        * scaleAt (a0 m c) (a1 m c) ⟨(512 * t.val + r.val) / 128, by have := lt300 t; omega⟩ d := by
  unfold scaleAt
  refine congrArg₂ (fun a b : EReal => a * b) (blkCodes_eq m c t r d) (congrArg (fun a => kPow2 (kExp a)) ((blkMax_eq m c t _ d).trans ?_))
  refine congrArg (fun q => amaxAt (a0 m c) (a1 m c) q d) (Fin.ext ?_)
  show 4 * t.val + r.val / 128 = (512 * t.val + r.val) / 128
  omega

theorem blkDy_eq (c : Dev nD) (t : Fin cfg0.N) (r : Fin 512) (e : Fin 2304) :
    (blkDy (iblk m c 2 t) (iblk m c 3 t) (ix2 r e) : EReal)
      = dyAt (a2 m c) (a3 m c) ⟨512 * t.val + r.val, by have := lt300 t; omega⟩ e := by
  unfold dyAt
  refine congrArg₂ (fun a b : EReal => a * b) (read2 m c t r e) ((read3 m c t _ e).trans ?_)
  refine congrArg₂ (fun i j => a3 m c (ix3 i j e)) (Fin.ext ?_) (Fin.ext ?_)
  · show (4 * t.val + r.val / 128) / 120 = (512 * t.val + r.val) / 15360
    omega
  · show (4 * t.val + r.val / 128) % 120 = (512 * t.val + r.val) / 128 % 120
    omega

/-- One point's contribution, as a sum over its 512 rows. -/
theorem accAt_apply (c : Dev nD) (t : Fin cfg0.N) (acc : Vec Ideal S2048x2304 .f32) (y : S2048x2304.Idx) :
    (accAt m c t acc y : EReal) = acc y + ∑ k : Fin 512, termAt (a0 m c) (a1 m c) (a2 m c) (a3 m c) ⟨512 * t.val + k.val, by have := lt300 t; omega⟩ (y 0) (y 1) := by
  unfold accAt
  rw [canon_x, canon_dy]
  obtain ⟨d, e, rfl⟩ : ∃ (d : Fin 2048) (e : Fin 2304), y = ix2 d e := ⟨y 0, y 1, eq_ix2 y⟩
  rw [acc_apply]
  refine congrArg (fun a : EReal => _ + a) (Finset.sum_congr rfl fun k _ => ?_)
  rw [blkXb_eq, blkDy_eq]
  rfl

/-! ## The three arrays -/

theorem arr6 (c : Dev nD) : (dats m 0 c).arrAt 6 cfg0.N = codeArr (a0 m c) (a1 m c) := by
  refine (dats m 0 c).arrAt_eq_of_covers 6 _ (by decide +kernel) fun t hf y => ?_
  blk_simp
  rw [after0_6, codes_at, canon_codes]
  obtain ⟨r, d, rfl⟩ : ∃ (r : Fin 512) (d : Fin 2048), y = ix2 r d := ⟨y 0, y 1, eq_ix2 y⟩
  refine (blkCodes_eq m c t r d).trans ?_
  unfold codeArr
  refine congrArg₂ (codeAt (a0 m c) (a1 m c)) (Fin.ext ?_) (Fin.ext ?_)
  · blk_simp [idx t]
    show 512 * t.val + r.val = t.val * 512 + r.val
    omega
  · blk_simp [idx t]

theorem arr7 (c : Dev nD) : (dats m 0 c).arrAt 7 cfg0.N = scaleArr (a0 m c) (a1 m c) := by
  refine (dats m 0 c).arrAt_eq_of_covers 7 _ (by decide +kernel) fun t hf y => ?_
  blk_simp
  rw [after0_7, scales_at, canon_scales]
  obtain ⟨b, d, rfl⟩ : ∃ (b : Fin 4) (d : Fin 2048), y = ix3 (0 : Fin 1) b d :=
    ⟨y 1, y 2, (eq_ix3 y).trans (congrArg (fun a => ix3 a (y 1) (y 2)) (Subsingleton.elim (α := Fin 1) _ _))⟩
  unfold scaleArr scaleAt
  refine congrArg (fun a => kPow2 (kExp a)) ((blkMax_eq m c t b d).trans (congrArg₂ (amaxAt (a0 m c) (a1 m c)) (Fin.ext ?_) (Fin.ext ?_)))
  · have e0 : ((win0_7.blk t).view.emb (ix3 (0 : Fin 1) b d) 0).val = t.val := by
      blk_simp [idx t]
      rfl
    have e1 : ((win0_7.blk t).view.emb (ix3 (0 : Fin 1) b d) 1).val = b.val := by
      blk_simp [idx t]
    show 4 * t.val + b.val = 4 * ((win0_7.blk t).view.emb (ix3 (0 : Fin 1) b d) 0).val + ((win0_7.blk t).view.emb (ix3 (0 : Fin 1) b d) 1).val
    rw [e0, e1]
  · blk_simp [idx t]

/-- The last grid point. -/
def lastPt : Fin cfg0.N := ⟨299, by rw [points]; decide⟩

/-- The accumulator after the last point. -/
theorem acc_last (c : Dev nD) (y : S2048x2304.Idx) :
    ((outsAt0 m c lastPt.val lastPt.isLt).1 y : EReal) = a4 m c y + ∑ p : Fin cfg0.N, ∑ k : Fin 512,
      termAt (a0 m c) (a1 m c) (a2 m c) (a3 m c) ⟨512 * p.val + k.val, by have := lt300 p; omega⟩ (y 0) (y 1) :=
  Pipeline.eq_sum_fin_of_reset_step_apply_last (M := EReal) (fun n h y => (outsAt0 m c n h).1 y) 300 (a4 m c)
    (fun p y => ∑ k : Fin 512, termAt (a0 m c) (a1 m c) (a2 m c) (a3 m c) ⟨512 * p.val + k.val, by have := lt300 p; omega⟩ (y 0) (y 1))
    (fun t h y => by
      show (outsAt0 m c t.val t.isLt).1 y = _
      rw [acc_first m c t h, accAt_apply, read4])
    (fun t h y => by
      show (outsAt0 m c t.val t.isLt).1 y = _
      rw [acc_next m c t h, accAt_apply])
    N_0.le lastPt ((show lastPt.val + 1 = 300 from rfl).trans points.symm) y

theorem arr5 (c : Dev nD) : (dats m 0 c).arrAt 5 cfg0.N = outArr (a0 m c) (a1 m c) (a2 m c) (a3 m c) (a4 m c) := by
  refine (dats m 0 c).arrAt_eq_of_after_last 5 lastPt (by decide +kernel) _ fun j => ?_
  blk_simp
  rw [after0_5]
  refine (acc_last m c j).trans ?_
  unfold outArr
  refine congrArg (fun a : EReal => _ + a) ?_
  refine (Finset.sum_congr rfl fun p _ => Finset.sum_congr rfl fun k _ => ?_).trans
    (Fin.sum_mul_add_fin cfg0.N 512 (fun R : Fin 153600 => termAt (a0 m c) (a1 m c) (a2 m c) (a3 m c) R (j 0) (j 1)) (by rw [points]))
  exact congrArg (fun R => termAt (a0 m c) (a1 m c) (a2 m c) (a3 m c) R (j 0) (j 1)) (Fin.ext (by
    show 512 * p.val + k.val = p.val * 512 + k.val
    omega))

end Cert.Work
end
-- ==== Proof.RefRun.lean ====
module

public import proofs.«01_k».proof.Proof.Gen.ReferenceIdeal.Frame
public import Idealize.ShloMosaic.Lib.Pipeline.Value
public import Idealize.ShloMosaic.PureOps.Ideal

@[expose] public section

/-! # The reference's run, its result arrays named

Every result is the array its output window leaves, and every argument is as launched. -/
noncomputable section
namespace Cert.RefWork
open Cert.ReferenceIdeal Cert.ReferenceIdeal.Gen Idealize.ShloMosaic Idealize.ShloMosaic.TcCoe Idealize.SL.Sem
variable (m : (ℓ : Loc nD τ sig) → Buf (Elt Ideal) ℓ) (ρ : Dev nD → PrngReg)

/-- An argument no window stages is as launched. -/
theorem kept_rest (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The argument a window stages is as launched: the window is only read. -/
theorem kept_staged (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem run_blocks : θ_run defs (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (kept_rest m r h c).1, (kept_rest m r h c).2.1,
      (kept_rest m r h c).2.2.1, (kept_rest m r h c).2.2.2, kept_staged m r h c⟩)
    (run_main m ρ)

end Cert.RefWork
end
-- ==== Proof.RefBody.lean ====
module

public import proofs.«01_k».proof.Proof.Spec
public import proofs.«01_k».proof.Proof.RefRun

@[expose] public section

/-! # The reference's body, element by element

Each step is stated of an arbitrary vector in place of the step before it, then put together. -/
set_option maxRecDepth 16384
noncomputable section
namespace Cert.RefWork
open Cert.ReferenceIdeal Cert.ReferenceIdeal.Gen Idealize.ShloMosaic Idealize.ShloMosaic.TcCoe Idealize.SL.Sem
open Cert.Work (colMax codeOf kPow2 kExp rPow2 rExp)

/-- The greatest magnitudes, from the values. -/
def maxVec (x : FVec Ideal S1200x128x2048 .f32) : FVec Ideal S1200x2048 .f32 :=
  multiReduction .maximumf [1] S1200x2048 (absf x) 0xFF800000#32 reduces_S1200x128x2048_S1200x2048 (.inl rfl) rfl

/-- The exponents, from the greatest magnitudes. -/
def expVec (a : FVec Ideal S1200x2048 .f32) : FVec Ideal S1200x2048 .f32 :=
  have y := mulf a (broadcast S1200x2048 (Scalar.ofBits .f32 0x3B124925#32))
  select (ori (cmpf .olt y (broadcast S1200x2048 (Scalar.ofBits .f32 0x00800000#32)))
      (cmpf .oeq y (broadcast S1200x2048 (Scalar.ofBits .f32 0x7F800000#32))))
    (broadcast S1200x2048 (Scalar.ofBits .f32 0x00000000#32))
    (minimumf (addf (floor (divf (log y) (log (broadcast S1200x2048 (Scalar.ofBits .f32 0x40000000#32)))))
      (broadcast S1200x2048 (Scalar.ofBits .f32 0x3F800000#32))) (broadcast S1200x2048 (Scalar.ofBits .f32 0x43000000#32)))

/-- The powers of two, from the exponents. -/
def powVec (e : FVec Ideal S1200x2048 .f32) : FVec Ideal S1200x2048 .f32 :=
  select (cmpf .olt e (broadcast S1200x2048 (Scalar.ofBits .f32 0xC2FC0000#32))) (broadcast S1200x2048 (Scalar.ofBits .f32 0x00000000#32))
    (select (cmpf .ogt e (broadcast S1200x2048 (Scalar.ofBits .f32 0x42FE0000#32))) (broadcast S1200x2048 (Scalar.ofBits .f32 0x7F800000#32))
      (exp2 e))

def negVec (e : FVec Ideal S1200x2048 .f32) : FVec Ideal S1200x2048 .f32 :=
  subf (broadcast S1200x2048 (Scalar.ofBits .f32 0x00000000#32)) e

/-- The codes, from the values and the inverse scales. -/
def codeVec (x : FVec Ideal S1200x128x2048 .f32) (p : FVec Ideal S1200x2048 .f32) : FVec Ideal S1200x128x2048 .fp8e4m3 :=
  truncf .fp8e4m3 (minimumf (broadcast S1200x128x2048 (Scalar.ofBits .f32 0x43E00000#32))
    (maximumf (broadcast S1200x128x2048 (Scalar.ofBits .f32 0xC3E00000#32))
      (mulf x (broadcastTo S1200x128x2048 (shapeCast S1200x1x2048 p shapeCasts_S1200x2048_S1200x1x2048) broadcasts_S1200x1x2048_S1200x128x2048))))
    bitsLt_fp8e4m3_f32

section
variable (v0 : Vec Ideal S1200x128x2048 .fp8e4m3) (v3 : Vec Ideal S1200x128x2048 .f32)

theorem pay2_eq : k0_pay2 v0 v3 = expVec (maxVec (k0_pay1 v0 v3)) := rfl
theorem pay3_eq : k0_pay3 v0 v3 = powVec (k0_pay2 v0 v3) := rfl
theorem pay4_eq : k0_pay4 v0 v3 = negVec (k0_pay2 v0 v3) := rfl
theorem pay6_eq (x : FVec Ideal S1200x128x2048 .f32) :
    k0_pay6 x (k0_pay4 v0 v3) (k0_pay5 v0 v3) (Scalar.ofBits .f32 0x42FE0000#32) = codeVec x (powVec (k0_pay4 v0 v3)) := rfl

theorem x_apply (q : Fin 1200) (r : Fin 128) (d : Fin 2048) :
    (k0_pay1 v0 v3 (ix3 q r d) : EReal) = v0 (ix3 q r d) * v3 (ix3 q r d) := by
  pointwise [k0_pay1]
end

theorem maxVec_apply (x : FVec Ideal S1200x128x2048 .f32) (q : Fin 1200) (d : Fin 2048) :
    (maxVec x (ix2 q d) : EReal) = colMax fun r => x (ix3 q r d) := by
  unfold colMax
  pointwise [maxVec]
  rfl

theorem expVec_apply (a : FVec Ideal S1200x2048 .f32) (i : S1200x2048.Idx) : expVec a i = rExp (a i) := rfl
theorem powVec_apply (e : FVec Ideal S1200x2048 .f32) (i : S1200x2048.Idx) : powVec e i = rPow2 (e i) := rfl
theorem negVec_apply (e : FVec Ideal S1200x2048 .f32) (i : S1200x2048.Idx) :
    negVec e i = FloatOps.subf (FloatOps.ofBits .f32 0x00000000#32 : Ideal .f32) (e i) := rfl

theorem codeVec_apply (x : FVec Ideal S1200x128x2048 .f32) (p : FVec Ideal S1200x2048 .f32) (q : Fin 1200) (r : Fin 128) (d : Fin 2048) :
    (codeVec x p (ix3 q r d) : EReal)
      = min (Ideal.ofBits .f32 0x43E00000#32) (max (Ideal.ofBits .f32 0xC3E00000#32) (x (ix3 q r d) * p (ix2 q d))) := by
  pointwise [codeVec]

section
variable (v0 : Vec Ideal S1200x128x2048 .fp8e4m3) (v3 : Vec Ideal S1200x128x2048 .f32)

/-- The greatest magnitude of column `d` in block `q`. -/
def rMax (q : Fin 1200) (d : Fin 2048) : EReal := colMax fun r => v0 (ix3 q r d) * v3 (ix3 q r d)

theorem exp_apply (q : Fin 1200) (d : Fin 2048) : k0_pay2 v0 v3 (ix2 q d) = rExp (rMax v0 v3 q d) := by
  rw [pay2_eq, expVec_apply, maxVec_apply]
  exact congrArg (fun f => rExp (colMax f)) (funext fun r => x_apply v0 v3 q r d)

theorem scale_apply (q : Fin 1200) (d : Fin 2048) : k0_pay3 v0 v3 (ix2 q d) = kPow2 (kExp (rMax v0 v3 q d)) := by
  rw [pay3_eq, powVec_apply, exp_apply]
  exact (Cert.Work.scale_eq _).symm

theorem code_apply (q : Fin 1200) (r : Fin 128) (d : Fin 2048) :
    (k0_pay6 (k0_pay1 v0 v3) (k0_pay4 v0 v3) (k0_pay5 v0 v3) (Scalar.ofBits .f32 0x42FE0000#32) (ix3 q r d) : EReal)
      = codeOf (v0 (ix3 q r d) * v3 (ix3 q r d)) (rMax v0 v3 q d) := by
  rw [pay6_eq, codeVec_apply, powVec_apply, pay4_eq, negVec_apply, exp_apply, x_apply]
  unfold codeOf
  rw [Cert.Work.inverse_eq]
end

/-! ## The results' shapes, and the weight gradient -/

/-- The requantised values, a row per token. -/
def xbVec (c : FVec Ideal S1200x128x2048 .fp8e4m3) (s : FVec Ideal S1200x2048 .f32) : FVec Ideal S153600x2048 .bf16 :=
  shapeCast S153600x2048 (mulf (extf .bf16 c bitsLt_fp8e4m3_bf16)
    (broadcastTo S1200x128x2048 (shapeCast S1200x1x2048 (truncf .bf16 s bitsLt_bf16_f32) shapeCasts_S1200x2048_S1200x1x2048)
      broadcasts_S1200x1x2048_S1200x128x2048)) shapeCasts_S1200x128x2048_S153600x2048

/-- The output gradients, a row per token. -/
def dybVec (v : Vec Ideal S1200x128x2304 .fp8e5m2) (s : Vec Ideal S1200x2304 .f32) : FVec Ideal S153600x2304 .bf16 :=
  shapeCast S153600x2304 (mulf (extf .bf16 (shapeCast S1200x128x2304 v shapeCasts_S1200x128x2304_S1200x128x2304) bitsLt_fp8e5m2_bf16)
    (broadcastTo S1200x128x2304 (shapeCast S1200x1x2304 (truncf .bf16 (shapeCast S1200x2304 s shapeCasts_S1200x2304_S1200x2304) bitsLt_bf16_f32)
      shapeCasts_S1200x2304_S1200x1x2304) broadcasts_S1200x1x2304_S1200x128x2304)) shapeCasts_S1200x128x2304_S153600x2304

/-- The contraction over the tokens, added to the accumulator. -/
def dotVec (a : FVec Ideal S2048x2304 .f32) (x : FVec Ideal S153600x2048 .bf16) (y : FVec Ideal S153600x2304 .bf16) : FVec Ideal S2048x2304 .f32 :=
  addf a (matmul dot_S153600x2048_S153600x2304_S2048x2304_0_0_1_1_n_n none x y (constant S2048x2304 .f32 0x00000000#32))

theorem cast_codes (z : FVec Ideal S1200x128x2048 .fp8e4m3) (R : Fin 153600) (d : Fin 2048) :
    shapeCast S153600x2048 z shapeCasts_S1200x128x2048_S153600x2048 (ix2 R d)
      = z (ix3 ⟨R.val / 128, by omega⟩ ⟨R.val % 128, by omega⟩ d) := by
  pointwise

theorem cast_scales (z : FVec Ideal S1200x2048 .f32) (p : Fin 300) (b : Fin 4) (d : Fin 2048) :
    k0_pay8 z (ix3 p b d) = z (ix2 ⟨4 * p.val + b.val, by omega⟩ d) := by
  pointwise [k0_pay8]
  exact congrArg (fun q => z (ix2 q d)) (Fin.ext (by show p.val * 4 + b.val = 4 * p.val + b.val; omega))

theorem xbVec_apply (c : FVec Ideal S1200x128x2048 .fp8e4m3) (s : FVec Ideal S1200x2048 .f32) (R : Fin 153600) (d : Fin 2048) :
    (xbVec c s (ix2 R d) : EReal) = c (ix3 ⟨R.val / 128, by omega⟩ ⟨R.val % 128, by omega⟩ d) * s (ix2 ⟨R.val / 128, by omega⟩ d) := by
  pointwise [xbVec]

theorem dybVec_apply (v : Vec Ideal S1200x128x2304 .fp8e5m2) (s : Vec Ideal S1200x2304 .f32) (R : Fin 153600) (e : Fin 2304) :
    (dybVec v s (ix2 R e) : EReal) = v (ix3 ⟨R.val / 128, by omega⟩ ⟨R.val % 128, by omega⟩ e) * s (ix2 ⟨R.val / 128, by omega⟩ e) := by
  pointwise [dybVec]

theorem dotVec_apply (a : FVec Ideal S2048x2304 .f32) (x : FVec Ideal S153600x2048 .bf16) (y : FVec Ideal S153600x2304 .bf16)
    (d : Fin 2048) (e : Fin 2304) :
    (dotVec a x y (ix2 d e) : EReal) = a (ix2 d e) + ∑ R : Fin 153600, x (ix2 R d) * y (ix2 R e) := by
  pointwise [dotVec]

theorem pay9_eq (x : FVec Ideal S1200x128x2048 .f32) (s p : FVec Ideal S1200x2048 .f32) (b : IVec S1200x2048 1) (k : Ideal .f32)
    (v : Vec Ideal S1200x128x2304 .fp8e5m2) (w : Vec Ideal S1200x2304 .f32) (a : Vec Ideal S2048x2304 .f32) :
    k0_pay9 x s p b k v w a = dotVec a (xbVec (k0_pay6 x p b k) s) (dybVec v w) := rfl

end Cert.RefWork
end
-- ==== Proof.RefValue.lean ====
module

public import proofs.«01_k».proof.Proof.RefBody

@[expose] public section

/-! # What the reference's arrays hold after the run -/
set_option maxRecDepth 16384
noncomputable section
namespace Cert.RefWork
open Cert.ReferenceIdeal Cert.ReferenceIdeal.Gen Idealize.ShloMosaic Idealize.ShloMosaic.TcCoe Idealize.SL.Sem
open Cert.Work (colMax codeOf kPow2 kExp rPow2 rExp)

variable (m : (ℓ : Loc nD τ sig) → Buf (Elt Ideal) ℓ)

theorem idx : ∀ t : Fin grid0.N, win0_0.index t = ![0, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0, 0] := by decide +kernel

abbrev a0 (c : Dev nD) : Vec Ideal S10x15360x2048 .fp8e4m3 := m ((c : Thread nD τ).loc main_arg0)
abbrev a1 (c : Dev nD) : Vec Ideal S10x15360x16 .f32 := m ((c : Thread nD τ).loc main_arg1)
abbrev a2 (c : Dev nD) : Vec Ideal S10x15360x2304 .fp8e5m2 := m ((c : Thread nD τ).loc main_arg2)
abbrev a3 (c : Dev nD) : Vec Ideal S10x120x2304 .f32 := m ((c : Thread nD τ).loc main_arg3)
abbrev a4 (c : Dev nD) : Vec Ideal S2048x2304 .f32 := m ((c : Thread nD τ).loc main_arg4)

theorem read0 (c : Dev nD) (t : Fin cfg0.N) (q : Fin 1200) (r : Fin 128) (d : Fin 2048) :
    iblk m c 0 t (ix3 q r d) = a0 m c (ix3 ⟨(128 * q.val + r.val) / 15360, by omega⟩ ⟨(128 * q.val + r.val) % 15360, by omega⟩ d) := by
  blk_simp [iblk, V, idx t]
  entry_read
  pointwise
  blk_ext [idx t]

theorem read1 (c : Dev nD) (t : Fin cfg0.N) (q : Fin 1200) (r : Fin 128) (d : Fin 2048) :
    iblk m c 1 t (ix3 q r d) = a1 m c (ix3 ⟨(128 * q.val + r.val) / 15360, by omega⟩ ⟨(128 * q.val + r.val) % 15360, by omega⟩ ⟨d.val / 128, by omega⟩) := by
  blk_simp [iblk, V, idx t]
  entry_read
  pointwise
  blk_ext [idx t]

theorem read2 (c : Dev nD) (t : Fin cfg0.N) (q : Fin 1200) (r : Fin 128) (e : Fin 2304) :
    iblk m c 2 t (ix3 q r e) = a2 m c (ix3 ⟨(128 * q.val + r.val) / 15360, by omega⟩ ⟨(128 * q.val + r.val) % 15360, by omega⟩ e) := by
  blk_simp [iblk, V, idx t]
  entry_read
  pointwise
  blk_ext [idx t]

theorem read3 (c : Dev nD) (t : Fin cfg0.N) (q : Fin 1200) (e : Fin 2304) :
    iblk m c 3 t (ix2 q e) = a3 m c (ix3 ⟨q.val / 120, by omega⟩ ⟨q.val % 120, by omega⟩ e) := by
  blk_simp [iblk, V, idx t]
  entry_read
  pointwise
  blk_ext [idx t]

theorem read4 (c : Dev nD) (t : Fin cfg0.N) (y : S2048x2304.Idx) : iblk m c 4 t y = a4 m c y := by
  blk_ext [iblk, V, idx t]

/-! ## The blocks, by the arguments -/

abbrev b0 (c : Dev nD) (t : Fin cfg0.N) : Vec Ideal S1200x128x2048 .fp8e4m3 := iblk m c 0 t
abbrev b1 (c : Dev nD) (t : Fin cfg0.N) : Vec Ideal S1200x128x2048 .f32 := iblk m c 1 t
abbrev b2 (c : Dev nD) (t : Fin cfg0.N) : Vec Ideal S1200x128x2304 .fp8e5m2 := iblk m c 2 t
abbrev b3 (c : Dev nD) (t : Fin cfg0.N) : Vec Ideal S1200x2304 .f32 := iblk m c 3 t

theorem x_eq (c : Dev nD) (t : Fin cfg0.N) (q : Fin 1200) (r : Fin 128) (d : Fin 2048) :
    (b0 m c t (ix3 q r d) * b1 m c t (ix3 q r d) : EReal)
      = Cert.Work.xAt (a0 m c) (a1 m c) ⟨128 * q.val + r.val, by omega⟩ d :=
  congrArg₂ (fun a b : EReal => a * b) (read0 m c t q r d) (read1 m c t q r d)

theorem max_eq (c : Dev nD) (t : Fin cfg0.N) (q : Fin 1200) (d : Fin 2048) :
    rMax (iblk m c 0 t) (iblk m c 1 t) q d = Cert.Work.amaxAt (a0 m c) (a1 m c) q d :=
  congrArg colMax (funext fun r => x_eq m c t q r d)

theorem row_eq (R : Fin 153600) (h : 128 * (R.val / 128) + R.val % 128 < 153600) :
    (⟨128 * (R.val / 128) + R.val % 128, h⟩ : Fin 153600) = R := Fin.ext (by show 128 * (R.val / 128) + R.val % 128 = R.val; omega)

/-- The body's codes of the two input blocks. -/
def codes (c : Dev nD) (t : Fin cfg0.N) : FVec Ideal S1200x128x2048 .fp8e4m3 :=
  k0_pay6 (k0_pay1 (iblk m c 0 t) (iblk m c 1 t)) (k0_pay4 (iblk m c 0 t) (iblk m c 1 t)) (k0_pay5 (iblk m c 0 t) (iblk m c 1 t))
    (Scalar.ofBits .f32 0x42FE0000#32)

theorem codes_apply (c : Dev nD) (t : Fin cfg0.N) (R : Fin 153600) (d : Fin 2048) :
    (codes m c t (ix3 ⟨R.val / 128, by omega⟩ ⟨R.val % 128, by omega⟩ d) : EReal) = Cert.Work.codeAt (a0 m c) (a1 m c) R d := by
  refine (code_apply _ _ _ _ _).trans ?_
  rw [x_eq, max_eq]
  unfold Cert.Work.codeAt
  rw [row_eq]

theorem scales_apply (c : Dev nD) (t : Fin cfg0.N) (q : Fin 1200) (d : Fin 2048) :
    (k0_pay3 (iblk m c 0 t) (iblk m c 1 t) (ix2 q d) : EReal) = Cert.Work.scaleAt (a0 m c) (a1 m c) q d := by
  rw [scale_apply, max_eq]
  rfl

theorem dy_eq (c : Dev nD) (t : Fin cfg0.N) (R : Fin 153600) (e : Fin 2304) :
    (b2 m c t (ix3 ⟨R.val / 128, by omega⟩ ⟨R.val % 128, by omega⟩ e) * b3 m c t (ix2 ⟨R.val / 128, by omega⟩ e) : EReal)
      = Cert.Work.dyAt (a2 m c) (a3 m c) R e := by
  unfold Cert.Work.dyAt
  refine congrArg₂ (fun a b : EReal => a * b) ((read2 m c t _ _ e).trans ?_) ((read3 m c t _ e).trans ?_)
  · refine congrArg₂ (fun i j => a2 m c (ix3 i j e)) (Fin.ext ?_) (Fin.ext ?_)
    · show (128 * (R.val / 128) + R.val % 128) / 15360 = R.val / 15360
      omega
    · show (128 * (R.val / 128) + R.val % 128) % 15360 = R.val % 15360
      omega
  · refine congrArg₂ (fun i j => a3 m c (ix3 i j e)) (Fin.ext ?_) rfl
    show R.val / 128 / 120 = R.val / 15360
    omega

/-! ## The arrays -/

/-- A load of a whole buffer. -/
theorem ld_whole {s : Shape} {e : EltTy} (x : Vec Ideal s e) (off : Fin s.rank → ℕ) (inb : ∀ a, off a + s.size a ≤ s.size a)
    (h : ∀ a, off a = 0) : View.ld x (Rect.unit off s.size inb) = x :=
  funext fun j => congrArg x (funext fun a => Fin.ext (by show off a + 1 * (j a).val = (j a).val; rw [h a]; omega))

theorem zero3 : ∀ a : Fin 3, (![0, 0, 0] : Fin 3 → ℕ) a = 0 := by decide

theorem pay10_eq (c : Dev nD) (t : Fin cfg0.N) :
    k0_pay10 (iblk m c 0 t) (iblk m c 1 t) (iblk m c 2 t) (iblk m c 3 t) (iblk m c 4 t) = k0_pay1 (iblk m c 0 t) (iblk m c 1 t) := by
  unfold k0_pay10
  exact congrArg₂ k0_pay1 (ld_whole _ _ _ zero3) (ld_whole _ _ _ zero3)

theorem pay11_eq (c : Dev nD) (t : Fin cfg0.N) :
    k0_pay11 (iblk m c 0 t) (iblk m c 1 t) (iblk m c 2 t) (iblk m c 3 t) (iblk m c 4 t) = k0_pay3 (iblk m c 0 t) (iblk m c 1 t) := by
  unfold k0_pay11
  exact congrArg₂ k0_pay3 (ld_whole _ _ _ zero3) (ld_whole _ _ _ zero3)

theorem pay12_eq (c : Dev nD) (t : Fin cfg0.N) :
    k0_pay12 (iblk m c 0 t) (iblk m c 1 t) (iblk m c 2 t) (iblk m c 3 t) (iblk m c 4 t) = k0_pay4 (iblk m c 0 t) (iblk m c 1 t) := by
  unfold k0_pay12
  exact congrArg₂ k0_pay4 (ld_whole _ _ _ zero3) (ld_whole _ _ _ zero3)

theorem pay13_eq (c : Dev nD) (t : Fin cfg0.N) :
    k0_pay13 (iblk m c 0 t) (iblk m c 1 t) (iblk m c 2 t) (iblk m c 3 t) (iblk m c 4 t) = k0_pay5 (iblk m c 0 t) (iblk m c 1 t) := by
  unfold k0_pay13
  exact congrArg₂ k0_pay5 (ld_whole _ _ _ zero3) (ld_whole _ _ _ zero3)

/-- What the point leaves in the codes' window. -/
theorem after6_apply (c : Dev nD) (t : Fin cfg0.N) (R : Fin 153600) (d : Fin 2048) :
    (out0_6 (iblk m c 0 t) (iblk m c 1 t) (iblk m c 2 t) (iblk m c 3 t) (iblk m c 4 t) (ix2 R d) : EReal) = Cert.Work.codeAt (a0 m c) (a1 m c) R d := by
  frame_out
  rw [pay10_eq, pay12_eq, pay13_eq]
  exact (cast_codes (codes m c t) R d).trans (codes_apply m c t R d)

theorem after7_apply (c : Dev nD) (t : Fin cfg0.N) (p : Fin 300) (b : Fin 4) (d : Fin 2048) :
    (out0_7 (iblk m c 0 t) (iblk m c 1 t) (iblk m c 2 t) (iblk m c 3 t) (iblk m c 4 t) (ix3 p b d) : EReal)
      = Cert.Work.scaleAt (a0 m c) (a1 m c) ⟨4 * p.val + b.val, by omega⟩ d := by
  frame_out
  rw [pay11_eq, cast_scales]
  exact scales_apply m c t _ d

theorem after5_apply (c : Dev nD) (t : Fin cfg0.N) (d : Fin 2048) (e : Fin 2304) :
    (out0_5 (iblk m c 0 t) (iblk m c 1 t) (iblk m c 2 t) (iblk m c 3 t) (iblk m c 4 t) (ix2 d e) : EReal)
      = a4 m c (ix2 d e) + ∑ R : Fin 153600, Cert.Work.termAt (a0 m c) (a1 m c) (a2 m c) (a3 m c) R d e := by
  frame_out
  rw [pay10_eq, pay11_eq, pay12_eq, pay13_eq, pay9_eq, dotVec_apply, read4]
  refine congrArg (fun a : EReal => _ + a) (Finset.sum_congr rfl fun R _ => ?_)
  rw [xbVec_apply, dybVec_apply, dy_eq, scales_apply]
  exact congrArg (fun a : EReal => a * _ * _) (codes_apply m c t R d)

theorem arr6 (c : Dev nD) : (dats m 0 c).arrAt 6 cfg0.N = Cert.Work.codeArr (a0 m c) (a1 m c) := by
  refine (dats m 0 c).arrAt_eq_of_covers 6 _ (by decide +kernel) fun t hf y => ?_
  blk_simp
  rw [after0_6]
  obtain ⟨R, d, rfl⟩ : ∃ (R : Fin 153600) (d : Fin 2048), y = ix2 R d := ⟨y 0, y 1, eq_ix2 y⟩
  refine (after6_apply m c t R d).trans ?_
  unfold Cert.Work.codeArr
  refine congrArg₂ (Cert.Work.codeAt (a0 m c) (a1 m c)) (Fin.ext ?_) (Fin.ext ?_)
  · blk_simp [idx t]
  · blk_simp [idx t]

theorem arr7 (c : Dev nD) : (dats m 0 c).arrAt 7 cfg0.N = Cert.Work.scaleArr (a0 m c) (a1 m c) := by
  refine (dats m 0 c).arrAt_eq_of_covers 7 _ (by decide +kernel) fun t hf y => ?_
  blk_simp
  rw [after0_7]
  obtain ⟨p, b, d, rfl⟩ : ∃ (p : Fin 300) (b : Fin 4) (d : Fin 2048), y = ix3 p b d := ⟨y 0, y 1, y 2, eq_ix3 y⟩
  refine (after7_apply m c t p b d).trans ?_
  unfold Cert.Work.scaleArr
  refine congrArg₂ (Cert.Work.scaleAt (a0 m c) (a1 m c)) (Fin.ext ?_) (Fin.ext ?_)
  · have e0 : ((win0_7.blk t).view.emb (ix3 p b d) 0).val = p.val := by
      blk_simp [idx t]
    have e1 : ((win0_7.blk t).view.emb (ix3 p b d) 1).val = b.val := by
      blk_simp [idx t]
    show 4 * p.val + b.val = 4 * ((win0_7.blk t).view.emb (ix3 p b d) 0).val + ((win0_7.blk t).view.emb (ix3 p b d) 1).val
    rw [e0, e1]
  · blk_simp [idx t]

theorem arr5 (c : Dev nD) : (dats m 0 c).arrAt 5 cfg0.N = Cert.Work.outArr (a0 m c) (a1 m c) (a2 m c) (a3 m c) (a4 m c) := by
  refine (dats m 0 c).arrAt_eq_of_covers 5 _ (by decide +kernel) fun t hf y => ?_
  blk_simp
  rw [after0_5]
  obtain ⟨d, e, rfl⟩ : ∃ (d : Fin 2048) (e : Fin 2304), y = ix2 d e := ⟨y 0, y 1, eq_ix2 y⟩
  refine (after5_apply m c t d e).trans ?_
  refine congrArg (Cert.Work.outArr (a0 m c) (a1 m c) (a2 m c) (a3 m c) (a4 m c)) (a₁ := ix2 d e) (funext fun a => Fin.ext ?_)
  fin_cases a
  · blk_simp [idx t]
  · blk_simp [idx t]

end Cert.RefWork
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Both runs leave the three arrays of `Proof/Spec.lean`, of arguments that agree. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Work.outArr (Cert.Work.a0 m c) (Cert.Work.a1 m c) (Cert.Work.a2 m c) (Cert.Work.a3 m c) (Cert.Work.a4 m c),
    fun c => Cert.Work.codeArr (Cert.Work.a0 m c) (Cert.Work.a1 m c), fun c => Cert.Work.scaleArr (Cert.Work.a0 m c) (Cert.Work.a1 m c), ?_, ?_⟩
  · refine (θ_run Cert.KernelIdeal.defs _ _).mono (fun r h c => ?_) (Cert.KernelIdeal.Value.run_blocks (F := Ideal) m ρ)
    obtain ⟨h5, h6, h7, kept⟩ := h c
    exact ⟨h5.trans (Cert.Work.arr5 m c), h6.trans (Cert.Work.arr6 m c), h7.trans (Cert.Work.arr7 m c), kept⟩
  · refine (θ_run Cert.ReferenceIdeal.defs _ _).mono (fun r h c => ?_) (Cert.RefWork.run_blocks m' ρ')
    obtain ⟨h5, h6, h7, kept⟩ := h c
    obtain ⟨e0, e1, e2, e3, e4⟩ := hagree c
    have f0 : Cert.RefWork.a0 m' c = Cert.Work.a0 m c := e0
    have f1 : Cert.RefWork.a1 m' c = Cert.Work.a1 m c := e1
    have f2 : Cert.RefWork.a2 m' c = Cert.Work.a2 m c := e2
    have f3 : Cert.RefWork.a3 m' c = Cert.Work.a3 m c := e3
    have f4 : Cert.RefWork.a4 m' c = Cert.Work.a4 m c := e4
    refine ⟨h5.trans ((Cert.RefWork.arr5 m' c).trans ?_), h6.trans ((Cert.RefWork.arr6 m' c).trans ?_),
      h7.trans ((Cert.RefWork.arr7 m' c).trans ?_), kept⟩
    · rw [f0, f1, f2, f3, f4]
    · rw [f0, f1]
    · rw [f0, f1]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
